-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S1024x256 : Shape := ⟨2, ![1024, 256]⟩
abbrev S512x256 : Shape := ⟨2, ![512, 256]⟩
abbrev S_ : Shape := ⟨0, ![]⟩
abbrev S2 : Shape := ⟨1, ![2]⟩
abbrev S8x2 : Shape := ⟨2, ![8, 2]⟩
abbrev S1024x512 : Shape := ⟨2, ![1024, 512]⟩
abbrev S1 : Shape := ⟨1, ![1]⟩
abbrev S512x128 : Shape := ⟨2, ![512, 128]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S512x4096, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_i32_150 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c256_i32 : BitVec 32 := 256#32
  let v166 : BitVec 32 := Scalar.muli v40 c256_i32
  ![0, v166.toNat]
def k0_dev1 (d0 : Dev nD) : Nat :=
  let c0_i32_154 : BitVec 32 := 0#32
  let c1_i32_151 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v169 : BitVec 32 := Scalar.subi c1_i32_151 v2
  let c16_i32_153 : BitVec 32 := 16#32
  let v170 : BitVec 32 := Scalar.muli v169 c16_i32_153
  let v171 : BitVec 32 := Scalar.addi c0_i32_154 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v172 : BitVec 32 := Scalar.muli v5 c4_i32_155
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v174 : BitVec 32 := Scalar.muli v8 c1_i32_156
  let v175 : BitVec 32 := Scalar.addi v173 v174
  v175.toNat
def k0_dev2 (d0 : Dev nD) : Nat :=
  let c0_i32_159 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_158 : BitVec 32 := 16#32
  let v176 : BitVec 32 := Scalar.muli v2 c16_i32_158
  let v177 : BitVec 32 := Scalar.addi c0_i32_159 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_160 : BitVec 32 := 4#32
  let v178 : BitVec 32 := Scalar.muli v75 c4_i32_160
  let v179 : BitVec 32 := Scalar.addi v177 v178
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_161 : BitVec 32 := 1#32
  let v180 : BitVec 32 := Scalar.muli v105 c1_i32_161
  let v181 : BitVec 32 := Scalar.addi v179 v180
  v181.toNat
def k0_dev3 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v182 : BitVec 32 := Scalar.muli v2 c16_i32_163
  let v183 : BitVec 32 := Scalar.addi c0_i32_164 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_165 : BitVec 32 := 4#32
  let v184 : BitVec 32 := Scalar.muli v135 c4_i32_165
  let v185 : BitVec 32 := Scalar.addi v183 v184
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_166 : BitVec 32 := 1#32
  let v186 : BitVec 32 := Scalar.muli v165 c1_i32_166
  let v187 : BitVec 32 := Scalar.addi v185 v186
  v187.toNat
def k0_off2 (d0 : Dev nD) : Fin 2 → Nat :=
  let c0 : Index := 0#32
  let c1_i32_169 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v190 : BitVec 32 := Scalar.subi c1_i32_169 v2
  let c512_i32_170 : BitVec 32 := 512#32
  let v191 : BitVec 32 := Scalar.muli v190 c512_i32_170
  let v192 : Index := Scalar.indexCast v191
  ![0, v192.toNat]
def k0_off3 (d0 : Dev nD) : Fin 2 → Nat :=
  let c1_i32_169 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v190 : BitVec 32 := Scalar.subi c1_i32_169 v2
  let c512_i32_170 : BitVec 32 := 512#32
  let v191 : BitVec 32 := Scalar.muli v190 c512_i32_170
  let v197 : Index := Scalar.indexCast v191
  let c0_173 : Index := 0#32
  ![v197.toNat, 0]
def k0_off4 (d0 : Dev nD) : Fin 2 → Nat :=
  let c1_i32_169 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v190 : BitVec 32 := Scalar.subi c1_i32_169 v2
  let c512_i32_170 : BitVec 32 := 512#32
  let v191 : BitVec 32 := Scalar.muli v190 c512_i32_170
  let c0_i32_184 : BitVec 32 := 0#32
  ![v191.toNat, 0]
def k0_dev4 (d0 : Dev nD) : Nat :=
  let c0_i32_179 : BitVec 32 := 0#32
  let c1_i32_174 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v201 : BitVec 32 := Scalar.subi c1_i32_174 v2
  let c16_i32_178 : BitVec 32 := 16#32
  let v203 : BitVec 32 := Scalar.muli v201 c16_i32_178
  let v204 : BitVec 32 := Scalar.addi c0_i32_179 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_180 : BitVec 32 := 4#32
  let v205 : BitVec 32 := Scalar.muli v5 c4_i32_180
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v207 : BitVec 32 := Scalar.muli v8 c1_i32_181
  let v208 : BitVec 32 := Scalar.addi v206 v207
  v208.toNat
def k0_off5 (d0 : Dev nD) : Fin 2 → Nat :=
  let c1_i32_169 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v190 : BitVec 32 := Scalar.subi c1_i32_169 v2
  let c512_i32_170 : BitVec 32 := 512#32
  let v191 : BitVec 32 := Scalar.muli v190 c512_i32_170
  let c128_i32_192 : BitVec 32 := 128#32
  ![v191.toNat, 128]
def k0_dev5 (d0 : Dev nD) : Nat :=
  let c0_i32_188 : BitVec 32 := 0#32
  let c1_i32_175 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v202 : BitVec 32 := Scalar.subi c1_i32_175 v2
  let c16_i32_187 : BitVec 32 := 16#32
  let v215 : BitVec 32 := Scalar.muli v202 c16_i32_187
  let v216 : BitVec 32 := Scalar.addi c0_i32_188 v215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_189 : BitVec 32 := 4#32
  let v217 : BitVec 32 := Scalar.muli v5 c4_i32_189
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v219 : BitVec 32 := Scalar.muli v8 c1_i32_190
  let v220 : BitVec 32 := Scalar.addi v218 v219
  v220.toNat
def k0_off6 (d0 : Dev nD) : Fin 2 → Nat :=
  let c0_193 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v189 : BitVec 32 := Scalar.muli v2 c512_i32
  let v227 : Index := Scalar.indexCast v189
  ![0, v227.toNat]
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v189 : BitVec 32 := Scalar.muli v2 c512_i32
  let v232 : Index := Scalar.indexCast v189
  let c0_197 : Index := 0#32
  ![v232.toNat, 0]
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v189 : BitVec 32 := Scalar.muli v2 c512_i32
  let v385 : Index := Scalar.indexCast v189
  let c0_348 : Index := 0#32
  ![v385.toNat, 0]
def k0_off9 (d0 : Dev nD) (c0_i32_352 : BitVec 32) : Fin 2 → Nat :=
  let c0_353 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c256_i32_351 : BitVec 32 := 256#32
  let v389 : BitVec 32 := Scalar.muli v40 c256_i32_351
  let v390 : BitVec 32 := Scalar.addi v389 c0_i32_352
  let v391 : Index := Scalar.indexCast v390
  ![0, v391.toNat]
def k0_off10 (d0 : Dev nD) (c0_i32_199 : BitVec 32) (c0_i32_202 : BitVec 32) : Fin 2 → Nat :=
  let c0_i32_362 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_198 : BitVec 32 := 16#32
  let v236 : BitVec 32 := Scalar.addi v40 c16_i32_198
  let v237 : BitVec 32 := Scalar.subi v236 c0_i32_199
  let c16_i32_200 : BitVec 32 := 16#32
  let v238 : BitVec 32 := Scalar.remsi v237 c16_i32_200
  let c256_i32_201 : BitVec 32 := 256#32
  let v239 : BitVec 32 := Scalar.muli v238 c256_i32_201
  let v240 : BitVec 32 := Scalar.addi v239 c0_i32_202
  ![0, v240.toNat]
def k0_off10_at (r : Fin 15) : BitVec 32 × BitVec 32 :=
  if r.val < 7 then
    if r.val < 3 then
      if r.val < 1 then
        (0#32, 0#32)
      else
        if r.val < 2 then
          (0#32, 128#32)
        else
          (1#32, 0#32)
    else
      if r.val < 5 then
        if r.val < 4 then
          (1#32, 128#32)
        else
          (2#32, 0#32)
      else
        if r.val < 6 then
          (2#32, 128#32)
        else
          (3#32, 0#32)
  else
    if r.val < 11 then
      if r.val < 9 then
        if r.val < 8 then
          (3#32, 128#32)
        else
          (4#32, 0#32)
      else
        if r.val < 10 then
          (4#32, 128#32)
        else
          (5#32, 0#32)
    else
      if r.val < 13 then
        if r.val < 12 then
          (5#32, 128#32)
        else
          (6#32, 0#32)
      else
        if r.val < 14 then
          (6#32, 128#32)
        else
          (7#32, 0#32)
def k0_dev6 (d0 : Dev nD) : Nat :=
  let c0_i32_359 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_358 : BitVec 32 := 16#32
  let v393 : BitVec 32 := Scalar.muli v2 c16_i32_358
  let v394 : BitVec 32 := Scalar.addi c0_i32_359 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_360 : BitVec 32 := 4#32
  let v395 : BitVec 32 := Scalar.muli v75 c4_i32_360
  let v396 : BitVec 32 := Scalar.addi v394 v395
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_361 : BitVec 32 := 1#32
  let v397 : BitVec 32 := Scalar.muli v105 c1_i32_361
  let v398 : BitVec 32 := Scalar.addi v396 v397
  v398.toNat
def k0_off11 (d0 : Dev nD) (c0_i32_273 : BitVec 32) (c0_i32_276 : BitVec 32) : Fin 2 → Nat :=
  let c0_i32_372 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let v311 : BitVec 32 := Scalar.addi v40 c0_i32_273
  let c16_i32_274 : BitVec 32 := 16#32
  let v312 : BitVec 32 := Scalar.remsi v311 c16_i32_274
  let c256_i32_275 : BitVec 32 := 256#32
  let v313 : BitVec 32 := Scalar.muli v312 c256_i32_275
  let v314 : BitVec 32 := Scalar.addi v313 c0_i32_276
  ![0, v314.toNat]
def k0_off11_at (r : Fin 15) : BitVec 32 × BitVec 32 :=
  if r.val < 7 then
    if r.val < 3 then
      if r.val < 1 then
        (0#32, 0#32)
      else
        if r.val < 2 then
          (0#32, 128#32)
        else
          (1#32, 0#32)
    else
      if r.val < 5 then
        if r.val < 4 then
          (1#32, 128#32)
        else
          (2#32, 0#32)
      else
        if r.val < 6 then
          (2#32, 128#32)
        else
          (3#32, 0#32)
  else
    if r.val < 11 then
      if r.val < 9 then
        if r.val < 8 then
          (3#32, 128#32)
        else
          (4#32, 0#32)
      else
        if r.val < 10 then
          (4#32, 128#32)
        else
          (5#32, 0#32)
    else
      if r.val < 13 then
        if r.val < 12 then
          (5#32, 128#32)
        else
          (6#32, 0#32)
      else
        if r.val < 14 then
          (6#32, 128#32)
        else
          (7#32, 128#32)
def k0_dev7 (d0 : Dev nD) : Nat :=
  let c0_i32_369 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_368 : BitVec 32 := 16#32
  let v405 : BitVec 32 := Scalar.muli v2 c16_i32_368
  let v406 : BitVec 32 := Scalar.addi c0_i32_369 v405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_370 : BitVec 32 := 4#32
  let v407 : BitVec 32 := Scalar.muli v135 c4_i32_370
  let v408 : BitVec 32 := Scalar.addi v406 v407
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_371 : BitVec 32 := 1#32
  let v409 : BitVec 32 := Scalar.muli v165 c1_i32_371
  let v410 : BitVec 32 := Scalar.addi v408 v409
  v410.toNat
def k0_off12 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v189 : BitVec 32 := Scalar.muli v2 c512_i32
  let v431 : Index := Scalar.indexCast v189
  let c128 : Index := 128#32
  ![v431.toNat, 128]
def k0_dev8 (d0 : Dev nD) : Nat :=
  let c0_i32_399 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_398 : BitVec 32 := 16#32
  let v439 : BitVec 32 := Scalar.muli v2 c16_i32_398
  let v440 : BitVec 32 := Scalar.addi c0_i32_399 v439
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_400 : BitVec 32 := 4#32
  let v441 : BitVec 32 := Scalar.muli v75 c4_i32_400
  let v442 : BitVec 32 := Scalar.addi v440 v441
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_401 : BitVec 32 := 1#32
  let v443 : BitVec 32 := Scalar.muli v105 c1_i32_401
  let v444 : BitVec 32 := Scalar.addi v442 v443
  v444.toNat
def k0_dev9 (d0 : Dev nD) : Nat :=
  let c0_i32_409 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_408 : BitVec 32 := 16#32
  let v451 : BitVec 32 := Scalar.muli v2 c16_i32_408
  let v452 : BitVec 32 := Scalar.addi c0_i32_409 v451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_410 : BitVec 32 := 4#32
  let v453 : BitVec 32 := Scalar.muli v135 c4_i32_410
  let v454 : BitVec 32 := Scalar.addi v452 v453
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_411 : BitVec 32 := 1#32
  let v455 : BitVec 32 := Scalar.muli v165 c1_i32_411
  let v456 : BitVec 32 := Scalar.addi v454 v455
  v456.toNat
def k0_dev10 (d0 : Dev nD) : Nat :=
  let c0_i32_429 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_428 : BitVec 32 := 16#32
  let v473 : BitVec 32 := Scalar.muli v2 c16_i32_428
  let v474 : BitVec 32 := Scalar.addi c0_i32_429 v473
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_430 : BitVec 32 := 4#32
  let v475 : BitVec 32 := Scalar.muli v75 c4_i32_430
  let v476 : BitVec 32 := Scalar.addi v474 v475
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_431 : BitVec 32 := 1#32
  let v477 : BitVec 32 := Scalar.muli v105 c1_i32_431
  let v478 : BitVec 32 := Scalar.addi v476 v477
  v478.toNat
def k0_dev11 (d0 : Dev nD) : Nat :=
  let c0_i32_449 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_448 : BitVec 32 := 16#32
  let v495 : BitVec 32 := Scalar.muli v2 c16_i32_448
  let v496 : BitVec 32 := Scalar.addi c0_i32_449 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_450 : BitVec 32 := 4#32
  let v497 : BitVec 32 := Scalar.muli v135 c4_i32_450
  let v498 : BitVec 32 := Scalar.addi v496 v497
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_451 : BitVec 32 := 1#32
  let v499 : BitVec 32 := Scalar.muli v165 c1_i32_451
  let v500 : BitVec 32 := Scalar.addi v498 v499
  v500.toNat
def k0_dev12 (d0 : Dev nD) : Nat :=
  let c0_i32_469 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_468 : BitVec 32 := 16#32
  let v517 : BitVec 32 := Scalar.muli v2 c16_i32_468
  let v518 : BitVec 32 := Scalar.addi c0_i32_469 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_470 : BitVec 32 := 4#32
  let v519 : BitVec 32 := Scalar.muli v75 c4_i32_470
  let v520 : BitVec 32 := Scalar.addi v518 v519
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_471 : BitVec 32 := 1#32
  let v521 : BitVec 32 := Scalar.muli v105 c1_i32_471
  let v522 : BitVec 32 := Scalar.addi v520 v521
  v522.toNat
def k0_dev13 (d0 : Dev nD) : Nat :=
  let c0_i32_489 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_488 : BitVec 32 := 16#32
  let v539 : BitVec 32 := Scalar.muli v2 c16_i32_488
  let v540 : BitVec 32 := Scalar.addi c0_i32_489 v539
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_490 : BitVec 32 := 4#32
  let v541 : BitVec 32 := Scalar.muli v135 c4_i32_490
  let v542 : BitVec 32 := Scalar.addi v540 v541
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_491 : BitVec 32 := 1#32
  let v543 : BitVec 32 := Scalar.muli v165 c1_i32_491
  let v544 : BitVec 32 := Scalar.addi v542 v543
  v544.toNat
def k0_dev14 (d0 : Dev nD) : Nat :=
  let c0_i32_509 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_508 : BitVec 32 := 16#32
  let v561 : BitVec 32 := Scalar.muli v2 c16_i32_508
  let v562 : BitVec 32 := Scalar.addi c0_i32_509 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_510 : BitVec 32 := 4#32
  let v563 : BitVec 32 := Scalar.muli v75 c4_i32_510
  let v564 : BitVec 32 := Scalar.addi v562 v563
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_511 : BitVec 32 := 1#32
  let v565 : BitVec 32 := Scalar.muli v105 c1_i32_511
  let v566 : BitVec 32 := Scalar.addi v564 v565
  v566.toNat
def k0_dev15 (d0 : Dev nD) : Nat :=
  let c0_i32_529 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_528 : BitVec 32 := 16#32
  let v583 : BitVec 32 := Scalar.muli v2 c16_i32_528
  let v584 : BitVec 32 := Scalar.addi c0_i32_529 v583
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_530 : BitVec 32 := 4#32
  let v585 : BitVec 32 := Scalar.muli v135 c4_i32_530
  let v586 : BitVec 32 := Scalar.addi v584 v585
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_531 : BitVec 32 := 1#32
  let v587 : BitVec 32 := Scalar.muli v165 c1_i32_531
  let v588 : BitVec 32 := Scalar.addi v586 v587
  v588.toNat
def k0_dev16 (d0 : Dev nD) : Nat :=
  let c0_i32_549 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_548 : BitVec 32 := 16#32
  let v605 : BitVec 32 := Scalar.muli v2 c16_i32_548
  let v606 : BitVec 32 := Scalar.addi c0_i32_549 v605
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_550 : BitVec 32 := 4#32
  let v607 : BitVec 32 := Scalar.muli v75 c4_i32_550
  let v608 : BitVec 32 := Scalar.addi v606 v607
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_551 : BitVec 32 := 1#32
  let v609 : BitVec 32 := Scalar.muli v105 c1_i32_551
  let v610 : BitVec 32 := Scalar.addi v608 v609
  v610.toNat
def k0_dev17 (d0 : Dev nD) : Nat :=
  let c0_i32_569 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_568 : BitVec 32 := 16#32
  let v627 : BitVec 32 := Scalar.muli v2 c16_i32_568
  let v628 : BitVec 32 := Scalar.addi c0_i32_569 v627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_570 : BitVec 32 := 4#32
  let v629 : BitVec 32 := Scalar.muli v135 c4_i32_570
  let v630 : BitVec 32 := Scalar.addi v628 v629
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_571 : BitVec 32 := 1#32
  let v631 : BitVec 32 := Scalar.muli v165 c1_i32_571
  let v632 : BitVec 32 := Scalar.addi v630 v631
  v632.toNat
def k0_dev18 (d0 : Dev nD) : Nat :=
  let c0_i32_589 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_588 : BitVec 32 := 16#32
  let v649 : BitVec 32 := Scalar.muli v2 c16_i32_588
  let v650 : BitVec 32 := Scalar.addi c0_i32_589 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_590 : BitVec 32 := 4#32
  let v651 : BitVec 32 := Scalar.muli v75 c4_i32_590
  let v652 : BitVec 32 := Scalar.addi v650 v651
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_591 : BitVec 32 := 1#32
  let v653 : BitVec 32 := Scalar.muli v105 c1_i32_591
  let v654 : BitVec 32 := Scalar.addi v652 v653
  v654.toNat
def k0_dev19 (d0 : Dev nD) : Nat :=
  let c0_i32_609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_608 : BitVec 32 := 16#32
  let v671 : BitVec 32 := Scalar.muli v2 c16_i32_608
  let v672 : BitVec 32 := Scalar.addi c0_i32_609 v671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_610 : BitVec 32 := 4#32
  let v673 : BitVec 32 := Scalar.muli v135 c4_i32_610
  let v674 : BitVec 32 := Scalar.addi v672 v673
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_611 : BitVec 32 := 1#32
  let v675 : BitVec 32 := Scalar.muli v165 c1_i32_611
  let v676 : BitVec 32 := Scalar.addi v674 v675
  v676.toNat
def k0_dev20 (d0 : Dev nD) : Nat :=
  let c0_i32_629 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_628 : BitVec 32 := 16#32
  let v693 : BitVec 32 := Scalar.muli v2 c16_i32_628
  let v694 : BitVec 32 := Scalar.addi c0_i32_629 v693
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_630 : BitVec 32 := 4#32
  let v695 : BitVec 32 := Scalar.muli v75 c4_i32_630
  let v696 : BitVec 32 := Scalar.addi v694 v695
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_631 : BitVec 32 := 1#32
  let v697 : BitVec 32 := Scalar.muli v105 c1_i32_631
  let v698 : BitVec 32 := Scalar.addi v696 v697
  v698.toNat
def k0_dev21 (d0 : Dev nD) : Nat :=
  let c0_i32_649 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_648 : BitVec 32 := 16#32
  let v715 : BitVec 32 := Scalar.muli v2 c16_i32_648
  let v716 : BitVec 32 := Scalar.addi c0_i32_649 v715
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_650 : BitVec 32 := 4#32
  let v717 : BitVec 32 := Scalar.muli v135 c4_i32_650
  let v718 : BitVec 32 := Scalar.addi v716 v717
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_651 : BitVec 32 := 1#32
  let v719 : BitVec 32 := Scalar.muli v165 c1_i32_651
  let v720 : BitVec 32 := Scalar.addi v718 v719
  v720.toNat
def k0_dev22 (d0 : Dev nD) : Nat :=
  let c0_i32_669 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_668 : BitVec 32 := 16#32
  let v737 : BitVec 32 := Scalar.muli v2 c16_i32_668
  let v738 : BitVec 32 := Scalar.addi c0_i32_669 v737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_670 : BitVec 32 := 4#32
  let v739 : BitVec 32 := Scalar.muli v75 c4_i32_670
  let v740 : BitVec 32 := Scalar.addi v738 v739
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_671 : BitVec 32 := 1#32
  let v741 : BitVec 32 := Scalar.muli v105 c1_i32_671
  let v742 : BitVec 32 := Scalar.addi v740 v741
  v742.toNat
def k0_dev23 (d0 : Dev nD) : Nat :=
  let c0_i32_689 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_688 : BitVec 32 := 16#32
  let v759 : BitVec 32 := Scalar.muli v2 c16_i32_688
  let v760 : BitVec 32 := Scalar.addi c0_i32_689 v759
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_690 : BitVec 32 := 4#32
  let v761 : BitVec 32 := Scalar.muli v135 c4_i32_690
  let v762 : BitVec 32 := Scalar.addi v760 v761
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_691 : BitVec 32 := 1#32
  let v763 : BitVec 32 := Scalar.muli v165 c1_i32_691
  let v764 : BitVec 32 := Scalar.addi v762 v763
  v764.toNat
def k0_dev24 (d0 : Dev nD) : Nat :=
  let c0_i32_709 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_708 : BitVec 32 := 16#32
  let v781 : BitVec 32 := Scalar.muli v2 c16_i32_708
  let v782 : BitVec 32 := Scalar.addi c0_i32_709 v781
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_710 : BitVec 32 := 4#32
  let v783 : BitVec 32 := Scalar.muli v75 c4_i32_710
  let v784 : BitVec 32 := Scalar.addi v782 v783
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_711 : BitVec 32 := 1#32
  let v785 : BitVec 32 := Scalar.muli v105 c1_i32_711
  let v786 : BitVec 32 := Scalar.addi v784 v785
  v786.toNat
def k0_dev25 (d0 : Dev nD) : Nat :=
  let c0_i32_729 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_728 : BitVec 32 := 16#32
  let v803 : BitVec 32 := Scalar.muli v2 c16_i32_728
  let v804 : BitVec 32 := Scalar.addi c0_i32_729 v803
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_730 : BitVec 32 := 4#32
  let v805 : BitVec 32 := Scalar.muli v135 c4_i32_730
  let v806 : BitVec 32 := Scalar.addi v804 v805
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_731 : BitVec 32 := 1#32
  let v807 : BitVec 32 := Scalar.muli v165 c1_i32_731
  let v808 : BitVec 32 := Scalar.addi v806 v807
  v808.toNat
def k0_dev26 (d0 : Dev nD) : Nat :=
  let c0_i32_749 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_748 : BitVec 32 := 16#32
  let v825 : BitVec 32 := Scalar.muli v2 c16_i32_748
  let v826 : BitVec 32 := Scalar.addi c0_i32_749 v825
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_750 : BitVec 32 := 4#32
  let v827 : BitVec 32 := Scalar.muli v75 c4_i32_750
  let v828 : BitVec 32 := Scalar.addi v826 v827
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_751 : BitVec 32 := 1#32
  let v829 : BitVec 32 := Scalar.muli v105 c1_i32_751
  let v830 : BitVec 32 := Scalar.addi v828 v829
  v830.toNat
def k0_dev27 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_768 : BitVec 32 := 16#32
  let v847 : BitVec 32 := Scalar.muli v2 c16_i32_768
  let v848 : BitVec 32 := Scalar.addi c0_i32_769 v847
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_770 : BitVec 32 := 4#32
  let v849 : BitVec 32 := Scalar.muli v135 c4_i32_770
  let v850 : BitVec 32 := Scalar.addi v848 v849
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_771 : BitVec 32 := 1#32
  let v851 : BitVec 32 := Scalar.muli v165 c1_i32_771
  let v852 : BitVec 32 := Scalar.addi v850 v851
  v852.toNat
def k0_dev28 (d0 : Dev nD) : Nat :=
  let c0_i32_789 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_788 : BitVec 32 := 16#32
  let v869 : BitVec 32 := Scalar.muli v2 c16_i32_788
  let v870 : BitVec 32 := Scalar.addi c0_i32_789 v869
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_790 : BitVec 32 := 4#32
  let v871 : BitVec 32 := Scalar.muli v75 c4_i32_790
  let v872 : BitVec 32 := Scalar.addi v870 v871
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_791 : BitVec 32 := 1#32
  let v873 : BitVec 32 := Scalar.muli v105 c1_i32_791
  let v874 : BitVec 32 := Scalar.addi v872 v873
  v874.toNat
def k0_dev29 (d0 : Dev nD) : Nat :=
  let c0_i32_809 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_808 : BitVec 32 := 16#32
  let v891 : BitVec 32 := Scalar.muli v2 c16_i32_808
  let v892 : BitVec 32 := Scalar.addi c0_i32_809 v891
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_810 : BitVec 32 := 4#32
  let v893 : BitVec 32 := Scalar.muli v135 c4_i32_810
  let v894 : BitVec 32 := Scalar.addi v892 v893
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_811 : BitVec 32 := 1#32
  let v895 : BitVec 32 := Scalar.muli v165 c1_i32_811
  let v896 : BitVec 32 := Scalar.addi v894 v895
  v896.toNat
def k0_dev30 (d0 : Dev nD) : Nat :=
  let c0_i32_829 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_828 : BitVec 32 := 16#32
  let v913 : BitVec 32 := Scalar.muli v2 c16_i32_828
  let v914 : BitVec 32 := Scalar.addi c0_i32_829 v913
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_830 : BitVec 32 := 4#32
  let v915 : BitVec 32 := Scalar.muli v75 c4_i32_830
  let v916 : BitVec 32 := Scalar.addi v914 v915
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_831 : BitVec 32 := 1#32
  let v917 : BitVec 32 := Scalar.muli v105 c1_i32_831
  let v918 : BitVec 32 := Scalar.addi v916 v917
  v918.toNat
def k0_dev31 (d0 : Dev nD) : Nat :=
  let c0_i32_849 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_848 : BitVec 32 := 16#32
  let v935 : BitVec 32 := Scalar.muli v2 c16_i32_848
  let v936 : BitVec 32 := Scalar.addi c0_i32_849 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_850 : BitVec 32 := 4#32
  let v937 : BitVec 32 := Scalar.muli v135 c4_i32_850
  let v938 : BitVec 32 := Scalar.addi v936 v937
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_851 : BitVec 32 := 1#32
  let v939 : BitVec 32 := Scalar.muli v165 c1_i32_851
  let v940 : BitVec 32 := Scalar.addi v938 v939
  v940.toNat
def k0_dev32 (d0 : Dev nD) : Nat :=
  let c0_i32_869 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_868 : BitVec 32 := 16#32
  let v957 : BitVec 32 := Scalar.muli v2 c16_i32_868
  let v958 : BitVec 32 := Scalar.addi c0_i32_869 v957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_870 : BitVec 32 := 4#32
  let v959 : BitVec 32 := Scalar.muli v75 c4_i32_870
  let v960 : BitVec 32 := Scalar.addi v958 v959
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_871 : BitVec 32 := 1#32
  let v961 : BitVec 32 := Scalar.muli v105 c1_i32_871
  let v962 : BitVec 32 := Scalar.addi v960 v961
  v962.toNat
def k0_dev33 (d0 : Dev nD) : Nat :=
  let c0_i32_889 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_888 : BitVec 32 := 16#32
  let v979 : BitVec 32 := Scalar.muli v2 c16_i32_888
  let v980 : BitVec 32 := Scalar.addi c0_i32_889 v979
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_890 : BitVec 32 := 4#32
  let v981 : BitVec 32 := Scalar.muli v135 c4_i32_890
  let v982 : BitVec 32 := Scalar.addi v980 v981
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_891 : BitVec 32 := 1#32
  let v983 : BitVec 32 := Scalar.muli v165 c1_i32_891
  let v984 : BitVec 32 := Scalar.addi v982 v983
  v984.toNat
def k0_dev34 (d0 : Dev nD) : Nat :=
  let c0_i32_909 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_908 : BitVec 32 := 16#32
  let v1001 : BitVec 32 := Scalar.muli v2 c16_i32_908
  let v1002 : BitVec 32 := Scalar.addi c0_i32_909 v1001
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c1_i32_21 : BitVec 32 := 1#32
  let v41 : BitVec 32 := Scalar.addi v40 c1_i32_21
  let c16_i32_22 : BitVec 32 := 16#32
  let v42 : BitVec 32 := Scalar.remsi v41 c16_i32_22
  let c15_i32_55 : BitVec 32 := 15#32
  let v74 : BitVec 1 := Scalar.cmpi .eq v42 c15_i32_55
  let c1_i32_56 : BitVec 32 := 1#32
  let c14_i32_53 : BitVec 32 := 14#32
  let v72 : BitVec 1 := Scalar.cmpi .eq v42 c14_i32_53
  let c2_i32_54 : BitVec 32 := 2#32
  let c13_i32_51 : BitVec 32 := 13#32
  let v70 : BitVec 1 := Scalar.cmpi .eq v42 c13_i32_51
  let c3_i32_52 : BitVec 32 := 3#32
  let c12_i32_49 : BitVec 32 := 12#32
  let v68 : BitVec 1 := Scalar.cmpi .eq v42 c12_i32_49
  let c3_i32_50 : BitVec 32 := 3#32
  let c11_i32_47 : BitVec 32 := 11#32
  let v66 : BitVec 1 := Scalar.cmpi .eq v42 c11_i32_47
  let c2_i32_48 : BitVec 32 := 2#32
  let c10_i32_45 : BitVec 32 := 10#32
  let v64 : BitVec 1 := Scalar.cmpi .eq v42 c10_i32_45
  let c1_i32_46 : BitVec 32 := 1#32
  let c9_i32_43 : BitVec 32 := 9#32
  let v62 : BitVec 1 := Scalar.cmpi .eq v42 c9_i32_43
  let c1_i32_44 : BitVec 32 := 1#32
  let c8_i32_41 : BitVec 32 := 8#32
  let v60 : BitVec 1 := Scalar.cmpi .eq v42 c8_i32_41
  let c2_i32_42 : BitVec 32 := 2#32
  let c7_i32_39 : BitVec 32 := 7#32
  let v58 : BitVec 1 := Scalar.cmpi .eq v42 c7_i32_39
  let c3_i32_40 : BitVec 32 := 3#32
  let c6_i32_37 : BitVec 32 := 6#32
  let v56 : BitVec 1 := Scalar.cmpi .eq v42 c6_i32_37
  let c3_i32_38 : BitVec 32 := 3#32
  let c5_i32_35 : BitVec 32 := 5#32
  let v54 : BitVec 1 := Scalar.cmpi .eq v42 c5_i32_35
  let c2_i32_36 : BitVec 32 := 2#32
  let c4_i32_33 : BitVec 32 := 4#32
  let v52 : BitVec 1 := Scalar.cmpi .eq v42 c4_i32_33
  let c1_i32_34 : BitVec 32 := 1#32
  let c3_i32_31 : BitVec 32 := 3#32
  let v50 : BitVec 1 := Scalar.cmpi .eq v42 c3_i32_31
  let c0_i32_32 : BitVec 32 := 0#32
  let c2_i32_29 : BitVec 32 := 2#32
  let v48 : BitVec 1 := Scalar.cmpi .eq v42 c2_i32_29
  let c0_i32_30 : BitVec 32 := 0#32
  let c1_i32_26 : BitVec 32 := 1#32
  let v46 : BitVec 1 := Scalar.cmpi .eq v42 c1_i32_26
  let c0_i32_27 : BitVec 32 := 0#32
  let c0_i32_28 : BitVec 32 := 0#32
  let v47 : BitVec 32 := Scalar.select v46 c0_i32_27 c0_i32_28
  let v49 : BitVec 32 := Scalar.select v48 c0_i32_30 v47
  let v51 : BitVec 32 := Scalar.select v50 c0_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c1_i32_46 v63
  let v67 : BitVec 32 := Scalar.select v66 c2_i32_48 v65
  let v69 : BitVec 32 := Scalar.select v68 c3_i32_50 v67
  let v71 : BitVec 32 := Scalar.select v70 c3_i32_52 v69
  let v73 : BitVec 32 := Scalar.select v72 c2_i32_54 v71
  let v75 : BitVec 32 := Scalar.select v74 c1_i32_56 v73
  let c4_i32_910 : BitVec 32 := 4#32
  let v1003 : BitVec 32 := Scalar.muli v75 c4_i32_910
  let v1004 : BitVec 32 := Scalar.addi v1002 v1003
  let c15_i32_86 : BitVec 32 := 15#32
  let v104 : BitVec 1 := Scalar.cmpi .eq v42 c15_i32_86
  let c0_i32_87 : BitVec 32 := 0#32
  let c14_i32_84 : BitVec 32 := 14#32
  let v102 : BitVec 1 := Scalar.cmpi .eq v42 c14_i32_84
  let c0_i32_85 : BitVec 32 := 0#32
  let c13_i32_82 : BitVec 32 := 13#32
  let v100 : BitVec 1 := Scalar.cmpi .eq v42 c13_i32_82
  let c0_i32_83 : BitVec 32 := 0#32
  let c12_i32_80 : BitVec 32 := 12#32
  let v98 : BitVec 1 := Scalar.cmpi .eq v42 c12_i32_80
  let c1_i32_81 : BitVec 32 := 1#32
  let c11_i32_78 : BitVec 32 := 11#32
  let v96 : BitVec 1 := Scalar.cmpi .eq v42 c11_i32_78
  let c1_i32_79 : BitVec 32 := 1#32
  let c10_i32_76 : BitVec 32 := 10#32
  let v94 : BitVec 1 := Scalar.cmpi .eq v42 c10_i32_76
  let c1_i32_77 : BitVec 32 := 1#32
  let c9_i32_74 : BitVec 32 := 9#32
  let v92 : BitVec 1 := Scalar.cmpi .eq v42 c9_i32_74
  let c2_i32_75 : BitVec 32 := 2#32
  let c8_i32_72 : BitVec 32 := 8#32
  let v90 : BitVec 1 := Scalar.cmpi .eq v42 c8_i32_72
  let c2_i32_73 : BitVec 32 := 2#32
  let c7_i32_70 : BitVec 32 := 7#32
  let v88 : BitVec 1 := Scalar.cmpi .eq v42 c7_i32_70
  let c2_i32_71 : BitVec 32 := 2#32
  let c6_i32_68 : BitVec 32 := 6#32
  let v86 : BitVec 1 := Scalar.cmpi .eq v42 c6_i32_68
  let c3_i32_69 : BitVec 32 := 3#32
  let c5_i32_66 : BitVec 32 := 5#32
  let v84 : BitVec 1 := Scalar.cmpi .eq v42 c5_i32_66
  let c3_i32_67 : BitVec 32 := 3#32
  let c4_i32_64 : BitVec 32 := 4#32
  let v82 : BitVec 1 := Scalar.cmpi .eq v42 c4_i32_64
  let c3_i32_65 : BitVec 32 := 3#32
  let c3_i32_62 : BitVec 32 := 3#32
  let v80 : BitVec 1 := Scalar.cmpi .eq v42 c3_i32_62
  let c3_i32_63 : BitVec 32 := 3#32
  let c2_i32_60 : BitVec 32 := 2#32
  let v78 : BitVec 1 := Scalar.cmpi .eq v42 c2_i32_60
  let c2_i32_61 : BitVec 32 := 2#32
  let c1_i32_57 : BitVec 32 := 1#32
  let v76 : BitVec 1 := Scalar.cmpi .eq v42 c1_i32_57
  let c1_i32_58 : BitVec 32 := 1#32
  let c0_i32_59 : BitVec 32 := 0#32
  let v77 : BitVec 32 := Scalar.select v76 c1_i32_58 c0_i32_59
  let v79 : BitVec 32 := Scalar.select v78 c2_i32_61 v77
  let v81 : BitVec 32 := Scalar.select v80 c3_i32_63 v79
  let v83 : BitVec 32 := Scalar.select v82 c3_i32_65 v81
  let v85 : BitVec 32 := Scalar.select v84 c3_i32_67 v83
  let v87 : BitVec 32 := Scalar.select v86 c3_i32_69 v85
  let v89 : BitVec 32 := Scalar.select v88 c2_i32_71 v87
  let v91 : BitVec 32 := Scalar.select v90 c2_i32_73 v89
  let v93 : BitVec 32 := Scalar.select v92 c2_i32_75 v91
  let v95 : BitVec 32 := Scalar.select v94 c1_i32_77 v93
  let v97 : BitVec 32 := Scalar.select v96 c1_i32_79 v95
  let v99 : BitVec 32 := Scalar.select v98 c1_i32_81 v97
  let v101 : BitVec 32 := Scalar.select v100 c0_i32_83 v99
  let v103 : BitVec 32 := Scalar.select v102 c0_i32_85 v101
  let v105 : BitVec 32 := Scalar.select v104 c0_i32_87 v103
  let c1_i32_911 : BitVec 32 := 1#32
  let v1005 : BitVec 32 := Scalar.muli v105 c1_i32_911
  let v1006 : BitVec 32 := Scalar.addi v1004 v1005
  v1006.toNat
def k0_dev35 (d0 : Dev nD) : Nat :=
  let c0_i32_929 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_928 : BitVec 32 := 16#32
  let v1023 : BitVec 32 := Scalar.muli v2 c16_i32_928
  let v1024 : BitVec 32 := Scalar.addi c0_i32_929 v1023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c15_i32_19 : BitVec 32 := 15#32
  let v39 : BitVec 1 := Scalar.cmpi .eq v10 c15_i32_19
  let c6_i32_20 : BitVec 32 := 6#32
  let c14_i32_17 : BitVec 32 := 14#32
  let v37 : BitVec 1 := Scalar.cmpi .eq v10 c14_i32_17
  let c7_i32_18 : BitVec 32 := 7#32
  let c13_i32_15 : BitVec 32 := 13#32
  let v35 : BitVec 1 := Scalar.cmpi .eq v10 c13_i32_15
  let c12_i32_16 : BitVec 32 := 12#32
  let c12_i32 : BitVec 32 := 12#32
  let v33 : BitVec 1 := Scalar.cmpi .eq v10 c12_i32
  let c13_i32 : BitVec 32 := 13#32
  let c11_i32_13 : BitVec 32 := 11#32
  let v31 : BitVec 1 := Scalar.cmpi .eq v10 c11_i32_13
  let c5_i32_14 : BitVec 32 := 5#32
  let c10_i32_11 : BitVec 32 := 10#32
  let v29 : BitVec 1 := Scalar.cmpi .eq v10 c10_i32_11
  let c8_i32_12 : BitVec 32 := 8#32
  let c9_i32_10 : BitVec 32 := 9#32
  let v27 : BitVec 1 := Scalar.cmpi .eq v10 c9_i32_10
  let c11_i32 : BitVec 32 := 11#32
  let c8_i32 : BitVec 32 := 8#32
  let v25 : BitVec 1 := Scalar.cmpi .eq v10 c8_i32
  let c14_i32 : BitVec 32 := 14#32
  let c7_i32 : BitVec 32 := 7#32
  let v23 : BitVec 1 := Scalar.cmpi .eq v10 c7_i32
  let c4_i32_9 : BitVec 32 := 4#32
  let c6_i32 : BitVec 32 := 6#32
  let v21 : BitVec 1 := Scalar.cmpi .eq v10 c6_i32
  let c9_i32 : BitVec 32 := 9#32
  let c5_i32 : BitVec 32 := 5#32
  let v19 : BitVec 1 := Scalar.cmpi .eq v10 c5_i32
  let c10_i32 : BitVec 32 := 10#32
  let c4_i32_8 : BitVec 32 := 4#32
  let v17 : BitVec 1 := Scalar.cmpi .eq v10 c4_i32_8
  let c15_i32 : BitVec 32 := 15#32
  let c3_i32 : BitVec 32 := 3#32
  let v15 : BitVec 1 := Scalar.cmpi .eq v10 c3_i32
  let c3_i32_7 : BitVec 32 := 3#32
  let c2_i32_5 : BitVec 32 := 2#32
  let v13 : BitVec 1 := Scalar.cmpi .eq v10 c2_i32_5
  let c2_i32_6 : BitVec 32 := 2#32
  let c1_i32_3 : BitVec 32 := 1#32
  let v11 : BitVec 1 := Scalar.cmpi .eq v10 c1_i32_3
  let c1_i32_4 : BitVec 32 := 1#32
  let c0_i32 : BitVec 32 := 0#32
  let v12 : BitVec 32 := Scalar.select v11 c1_i32_4 c0_i32
  let v14 : BitVec 32 := Scalar.select v13 c2_i32_6 v12
  let v16 : BitVec 32 := Scalar.select v15 c3_i32_7 v14
  let v18 : BitVec 32 := Scalar.select v17 c15_i32 v16
  let v20 : BitVec 32 := Scalar.select v19 c10_i32 v18
  let v22 : BitVec 32 := Scalar.select v21 c9_i32 v20
  let v24 : BitVec 32 := Scalar.select v23 c4_i32_9 v22
  let v26 : BitVec 32 := Scalar.select v25 c14_i32 v24
  let v28 : BitVec 32 := Scalar.select v27 c11_i32 v26
  let v30 : BitVec 32 := Scalar.select v29 c8_i32_12 v28
  let v32 : BitVec 32 := Scalar.select v31 c5_i32_14 v30
  let v34 : BitVec 32 := Scalar.select v33 c13_i32 v32
  let v36 : BitVec 32 := Scalar.select v35 c12_i32_16 v34
  let v38 : BitVec 32 := Scalar.select v37 c7_i32_18 v36
  let v40 : BitVec 32 := Scalar.select v39 c6_i32_20 v38
  let c16_i32_23 : BitVec 32 := 16#32
  let v43 : BitVec 32 := Scalar.addi v40 c16_i32_23
  let c1_i32_24 : BitVec 32 := 1#32
  let v44 : BitVec 32 := Scalar.subi v43 c1_i32_24
  let c16_i32_25 : BitVec 32 := 16#32
  let v45 : BitVec 32 := Scalar.remsi v44 c16_i32_25
  let c15_i32_117 : BitVec 32 := 15#32
  let v134 : BitVec 1 := Scalar.cmpi .eq v45 c15_i32_117
  let c1_i32_118 : BitVec 32 := 1#32
  let c14_i32_115 : BitVec 32 := 14#32
  let v132 : BitVec 1 := Scalar.cmpi .eq v45 c14_i32_115
  let c2_i32_116 : BitVec 32 := 2#32
  let c13_i32_113 : BitVec 32 := 13#32
  let v130 : BitVec 1 := Scalar.cmpi .eq v45 c13_i32_113
  let c3_i32_114 : BitVec 32 := 3#32
  let c12_i32_111 : BitVec 32 := 12#32
  let v128 : BitVec 1 := Scalar.cmpi .eq v45 c12_i32_111
  let c3_i32_112 : BitVec 32 := 3#32
  let c11_i32_109 : BitVec 32 := 11#32
  let v126 : BitVec 1 := Scalar.cmpi .eq v45 c11_i32_109
  let c2_i32_110 : BitVec 32 := 2#32
  let c10_i32_107 : BitVec 32 := 10#32
  let v124 : BitVec 1 := Scalar.cmpi .eq v45 c10_i32_107
  let c1_i32_108 : BitVec 32 := 1#32
  let c9_i32_105 : BitVec 32 := 9#32
  let v122 : BitVec 1 := Scalar.cmpi .eq v45 c9_i32_105
  let c1_i32_106 : BitVec 32 := 1#32
  let c8_i32_103 : BitVec 32 := 8#32
  let v120 : BitVec 1 := Scalar.cmpi .eq v45 c8_i32_103
  let c2_i32_104 : BitVec 32 := 2#32
  let c7_i32_101 : BitVec 32 := 7#32
  let v118 : BitVec 1 := Scalar.cmpi .eq v45 c7_i32_101
  let c3_i32_102 : BitVec 32 := 3#32
  let c6_i32_99 : BitVec 32 := 6#32
  let v116 : BitVec 1 := Scalar.cmpi .eq v45 c6_i32_99
  let c3_i32_100 : BitVec 32 := 3#32
  let c5_i32_97 : BitVec 32 := 5#32
  let v114 : BitVec 1 := Scalar.cmpi .eq v45 c5_i32_97
  let c2_i32_98 : BitVec 32 := 2#32
  let c4_i32_95 : BitVec 32 := 4#32
  let v112 : BitVec 1 := Scalar.cmpi .eq v45 c4_i32_95
  let c1_i32_96 : BitVec 32 := 1#32
  let c3_i32_93 : BitVec 32 := 3#32
  let v110 : BitVec 1 := Scalar.cmpi .eq v45 c3_i32_93
  let c0_i32_94 : BitVec 32 := 0#32
  let c2_i32_91 : BitVec 32 := 2#32
  let v108 : BitVec 1 := Scalar.cmpi .eq v45 c2_i32_91
  let c0_i32_92 : BitVec 32 := 0#32
  let c1_i32_88 : BitVec 32 := 1#32
  let v106 : BitVec 1 := Scalar.cmpi .eq v45 c1_i32_88
  let c0_i32_89 : BitVec 32 := 0#32
  let c0_i32_90 : BitVec 32 := 0#32
  let v107 : BitVec 32 := Scalar.select v106 c0_i32_89 c0_i32_90
  let v109 : BitVec 32 := Scalar.select v108 c0_i32_92 v107
  let v111 : BitVec 32 := Scalar.select v110 c0_i32_94 v109
  let v113 : BitVec 32 := Scalar.select v112 c1_i32_96 v111
  let v115 : BitVec 32 := Scalar.select v114 c2_i32_98 v113
  let v117 : BitVec 32 := Scalar.select v116 c3_i32_100 v115
  let v119 : BitVec 32 := Scalar.select v118 c3_i32_102 v117
  let v121 : BitVec 32 := Scalar.select v120 c2_i32_104 v119
  let v123 : BitVec 32 := Scalar.select v122 c1_i32_106 v121
  let v125 : BitVec 32 := Scalar.select v124 c1_i32_108 v123
  let v127 : BitVec 32 := Scalar.select v126 c2_i32_110 v125
  let v129 : BitVec 32 := Scalar.select v128 c3_i32_112 v127
  let v131 : BitVec 32 := Scalar.select v130 c3_i32_114 v129
  let v133 : BitVec 32 := Scalar.select v132 c2_i32_116 v131
  let v135 : BitVec 32 := Scalar.select v134 c1_i32_118 v133
  let c4_i32_930 : BitVec 32 := 4#32
  let v1025 : BitVec 32 := Scalar.muli v135 c4_i32_930
  let v1026 : BitVec 32 := Scalar.addi v1024 v1025
  let c15_i32_148 : BitVec 32 := 15#32
  let v164 : BitVec 1 := Scalar.cmpi .eq v45 c15_i32_148
  let c0_i32_149 : BitVec 32 := 0#32
  let c14_i32_146 : BitVec 32 := 14#32
  let v162 : BitVec 1 := Scalar.cmpi .eq v45 c14_i32_146
  let c0_i32_147 : BitVec 32 := 0#32
  let c13_i32_144 : BitVec 32 := 13#32
  let v160 : BitVec 1 := Scalar.cmpi .eq v45 c13_i32_144
  let c0_i32_145 : BitVec 32 := 0#32
  let c12_i32_142 : BitVec 32 := 12#32
  let v158 : BitVec 1 := Scalar.cmpi .eq v45 c12_i32_142
  let c1_i32_143 : BitVec 32 := 1#32
  let c11_i32_140 : BitVec 32 := 11#32
  let v156 : BitVec 1 := Scalar.cmpi .eq v45 c11_i32_140
  let c1_i32_141 : BitVec 32 := 1#32
  let c10_i32_138 : BitVec 32 := 10#32
  let v154 : BitVec 1 := Scalar.cmpi .eq v45 c10_i32_138
  let c1_i32_139 : BitVec 32 := 1#32
  let c9_i32_136 : BitVec 32 := 9#32
  let v152 : BitVec 1 := Scalar.cmpi .eq v45 c9_i32_136
  let c2_i32_137 : BitVec 32 := 2#32
  let c8_i32_134 : BitVec 32 := 8#32
  let v150 : BitVec 1 := Scalar.cmpi .eq v45 c8_i32_134
  let c2_i32_135 : BitVec 32 := 2#32
  let c7_i32_132 : BitVec 32 := 7#32
  let v148 : BitVec 1 := Scalar.cmpi .eq v45 c7_i32_132
  let c2_i32_133 : BitVec 32 := 2#32
  let c6_i32_130 : BitVec 32 := 6#32
  let v146 : BitVec 1 := Scalar.cmpi .eq v45 c6_i32_130
  let c3_i32_131 : BitVec 32 := 3#32
  let c5_i32_128 : BitVec 32 := 5#32
  let v144 : BitVec 1 := Scalar.cmpi .eq v45 c5_i32_128
  let c3_i32_129 : BitVec 32 := 3#32
  let c4_i32_126 : BitVec 32 := 4#32
  let v142 : BitVec 1 := Scalar.cmpi .eq v45 c4_i32_126
  let c3_i32_127 : BitVec 32 := 3#32
  let c3_i32_124 : BitVec 32 := 3#32
  let v140 : BitVec 1 := Scalar.cmpi .eq v45 c3_i32_124
  let c3_i32_125 : BitVec 32 := 3#32
  let c2_i32_122 : BitVec 32 := 2#32
  let v138 : BitVec 1 := Scalar.cmpi .eq v45 c2_i32_122
  let c2_i32_123 : BitVec 32 := 2#32
  let c1_i32_119 : BitVec 32 := 1#32
  let v136 : BitVec 1 := Scalar.cmpi .eq v45 c1_i32_119
  let c1_i32_120 : BitVec 32 := 1#32
  let c0_i32_121 : BitVec 32 := 0#32
  let v137 : BitVec 32 := Scalar.select v136 c1_i32_120 c0_i32_121
  let v139 : BitVec 32 := Scalar.select v138 c2_i32_123 v137
  let v141 : BitVec 32 := Scalar.select v140 c3_i32_125 v139
  let v143 : BitVec 32 := Scalar.select v142 c3_i32_127 v141
  let v145 : BitVec 32 := Scalar.select v144 c3_i32_129 v143
  let v147 : BitVec 32 := Scalar.select v146 c3_i32_131 v145
  let v149 : BitVec 32 := Scalar.select v148 c2_i32_133 v147
  let v151 : BitVec 32 := Scalar.select v150 c2_i32_135 v149
  let v153 : BitVec 32 := Scalar.select v152 c2_i32_137 v151
  let v155 : BitVec 32 := Scalar.select v154 c1_i32_139 v153
  let v157 : BitVec 32 := Scalar.select v156 c1_i32_141 v155
  let v159 : BitVec 32 := Scalar.select v158 c1_i32_143 v157
  let v161 : BitVec 32 := Scalar.select v160 c0_i32_145 v159
  let v163 : BitVec 32 := Scalar.select v162 c0_i32_147 v161
  let v165 : BitVec 32 := Scalar.select v164 c0_i32_149 v163
  let c1_i32_931 : BitVec 32 := 1#32
  let v1027 : BitVec 32 := Scalar.muli v165 c1_i32_931
  let v1028 : BitVec 32 := Scalar.addi v1026 v1027
  v1028.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Facts.lean ====
/-
# `Facts`: the side conditions the idealised program states

Shapes fit, offsets stay in bounds, device numbers are devices. Each is a closed statement over at most the 32 devices,
so each is settled by one evaluation.
-/
module

public import proofs.«01_k».proof.KernelIdeal

@[expose] public section

namespace Cert.KernelIdeal

open Idealize.ShloMosaic

instance facts₀ : Facts₀ := by
  constructor <;> first
    | decide +kernel
    | (intro j; obtain rfl := Subsingleton.elim j 0; exact Memref.isWhole_whole _)

instance facts : Facts where

end Cert.KernelIdeal
-- ==== Proof.Ring.lean ====
/-
# `Ring`: the torus as the kernel walks it

The 32 devices form two planes (mesh axis "x") of sixteen; a plane is one ring of sixteen positions, each device
linked to the next (`nxt`), the one before it (`prv`) and the device at the same position of the other plane (`peer`).
A finished chunk of 256 columns belongs to the device at the position of the same number; it travels the ring in two
directions, in halves of 128 columns. A `Hop` names one of these transfers.
-/
module

public import proofs.«01_k».proof.KernelIdeal
public import Idealize.ShloMosaic.Lib.Decide

@[expose] public section

namespace Cert.KernelIdeal.Ring

open Cert.KernelIdeal
open Idealize.ShloMosaic

/-! ## Positions -/

/-- The position of the device at the place `4 y + z` of its plane. -/
def posT : Fin 16 → Fin 16 := ![0, 1, 2, 3, 15, 10, 9, 4, 14, 11, 8, 5, 13, 12, 7, 6]
/-- The place `4 y + z` of a position. -/
def cycT : Fin 16 → Fin 16 := ![0, 1, 2, 3, 7, 11, 15, 14, 10, 6, 5, 9, 13, 12, 8, 4]

/-- The plane of a device. -/
def plane (c : Dev nD) : Fin 2 := ⟨c.val / 16, Nat.div_lt_of_lt_mul (show c.val < 16 * 2 from c.isLt)⟩
/-- The position of a device in its plane. -/
def pos (c : Dev nD) : Fin 16 := posT ⟨c.val % 16, Nat.mod_lt _ (by decide)⟩
/-- The device of a plane at a position. -/
def dev (x : Fin 2) (p : Fin 16) : Dev nD := ⟨16 * x.val + (cycT p).val, show _ < 32 by omega⟩

theorem dev_pos : ∀ c, dev (plane c) (pos c) = c := by decide
theorem pos_dev : ∀ x p, pos (dev x p) = p := by decide
theorem plane_dev : ∀ x p, plane (dev x p) = x := by decide

/-- The device one position on, one position back, and across. -/
def nxt (c : Dev nD) : Dev nD := dev (plane c) (pos c + 1)
def prv (c : Dev nD) : Dev nD := dev (plane c) (pos c - 1)
def peer (c : Dev nD) : Dev nD := dev (plane c + 1) (pos c)

theorem prv_nxt : ∀ c, prv (nxt c) = c := by decide
theorem nxt_prv : ∀ c, nxt (prv c) = c := by decide
theorem peer_peer : ∀ c, peer (peer c) = c := by decide

def nxtE : Equiv.Perm (Dev nD) := ⟨nxt, prv, prv_nxt, nxt_prv⟩
def peerE : Equiv.Perm (Dev nD) := ⟨peer, peer, peer_peer, peer_peer⟩

theorem plane_nxt (c : Dev nD) : plane (nxt c) = plane c := plane_dev _ _
theorem plane_prv (c : Dev nD) : plane (prv c) = plane c := plane_dev _ _
theorem plane_peer (c : Dev nD) : plane (peer c) = plane c + 1 := plane_dev _ _
theorem pos_peer (c : Dev nD) : pos (peer c) = pos c := pos_dev _ _

/-! ## Hops -/

/-- A transfer along the ring: its direction (`false` to the next device, `true` to the one before), its number, its
    half of the columns. -/
abbrev Hop : Type := Bool × Fin 8 × Fin 2

/-- The device a transfer in a direction goes to. -/
def toE (d : Bool) : Equiv.Perm (Dev nD) := bif d then nxtE.symm else nxtE

/-- The 128 columns (of 32 such groups) a device sends in a hop: those of the chunk `h` positions behind it. -/
def srcq (c : Dev nD) (i : Hop) : Fin 32 :=
  ⟨2 * (bif i.1 then pos c + ⟨i.2.1.val, by omega⟩ else pos c - ⟨i.2.1.val, by omega⟩ : Fin 16).val + i.2.2.val, by omega⟩
/-- The columns that arrive at a device in a hop. -/
def landq (c : Dev nD) (i : Hop) : Fin 32 :=
  ⟨2 * (bif i.1 then pos c + ⟨i.2.1.val + 1, by omega⟩ else pos c - ⟨i.2.1.val + 1, by omega⟩ : Fin 16).val + i.2.2.val, by omega⟩
/-- The two groups of a device's own chunk. -/
def ownq (c : Dev nD) (s : Fin 2) : Fin 32 := ⟨2 * (pos c).val + s.val, by omega⟩

theorem landq_to : ∀ c i, landq (toE i.1 c) i = srcq c i := by decide +kernel
theorem srcq_zero : ∀ c d s, srcq c (d, 0, s) = ownq c s := by decide +kernel

/-- The hop before (of a hop that is not the first). -/
def before (i : Hop) : Hop := (i.1, i.2.1 - 1, i.2.2)

/-- The first hops, in program order; the later ones, each of which forwards what its predecessor brought; the last of
    each direction and half, which brings what is not forwarded. -/
def firsts : List Hop := [(false, 0, 0), (true, 0, 0), (false, 0, 1), (true, 0, 1)]
def relays : List Hop :=
  ([1, 2, 3, 4, 5, 6] : List (Fin 8)).flatMap (fun h => [(false, h, 0), (true, h, 0), (false, h, 1), (true, h, 1)])
    ++ [(false, 7, 0), (true, 7, 1)]
def lasts : List Hop := [(false, 7, 0), (true, 6, 0), (false, 6, 1), (true, 7, 1)]
/-- Every hop, in program order. -/
def hops : List Hop := firsts ++ relays
/-- Every hop, in the order in which the kernel waits at its end for what it sent. -/
def sends : List Hop :=
  ([0, 1, 2, 3, 4, 5, 6, 7] : List (Fin 8)).map (fun h => (false, h, 0)) ++ ([0, 1, 2, 3, 4, 5, 6] : List (Fin 8)).map (fun h => (true, h, 0))
    ++ ([0, 1, 2, 3, 4, 5, 6] : List (Fin 8)).map (fun h => (false, h, 1)) ++ ([0, 1, 2, 3, 4, 5, 6, 7] : List (Fin 8)).map (fun h => (true, h, 1))

theorem srcq_relay : ∀ c, ∀ i ∈ relays, srcq c i = landq c (before i) := by decide +kernel
theorem plane_to : ∀ d c, plane (toE d c) = plane c := by decide +kernel
theorem hops_nodup : hops.Nodup := by decide +kernel
theorem sends_perm : sends.Perm hops := by decide +kernel
theorem hops_perm : hops.Perm (relays.map before ++ lasts) := by decide +kernel

/-- A device's own two groups, what arrives from the device before it and what arrives from the next one: all groups,
    each once. -/
def groups (c : Dev nD) : List (Fin 32) :=
  [ownq c 0, ownq c 1] ++ hops.map (landq c)

theorem groups_nodup : ∀ c, (groups c).Nodup := by decide +kernel
theorem groups_all : ∀ c q, q ∈ groups c := by decide +kernel

end Cert.KernelIdeal.Ring
-- ==== Proof.Program.lean ====
/-
# `Program`: the kernel's body, operation by operation

The printed body with its address arithmetic left out and its 30 ring transfers written as one list. `body_eq` says
that it is the printed one; the views and devices are then given in closed form (`cut_eq`, `devs_eq`, ...).
-/
module

public import proofs.«01_k».proof.Proof.Facts
public import proofs.«01_k».proof.Proof.Ring
public import Idealize.ShloMosaic.Lib.Pipeline.Regions

@[expose] public section

noncomputable section

namespace Cert.KernelIdeal.Ring

open Cert.KernelIdeal Cert.KernelIdeal.Facts₀
open Idealize.ShloMosaic Idealize.SL.Sem

variable {F : FTy → Type} [FloatOps F]

/-! ## Buffers and semaphores -/

/-- The staged block of `x`, the block of `dy` in the device's main memory, the staged result. -/
abbrev xM : Memref sig .tc .vmem S1024x1024 .f32 := Memref.whole cc0_stg0_0
abbrev aM : Memref sig .tc .hbm S1024x4096 .f32 := Memref.whole main_arg1
abbrev oM : Memref sig .tc .vmem S512x4096 .f32 := Memref.whole cc0_stg1_0
/-- The copied columns of `dy`, the two partial products, the partial product received from the peer. -/
abbrev dM : Memref sig .tc .vmem S1024x256 .f32 := Memref.whole cc0_scratch0
abbrev pM : Memref sig .tc .vmem S1024x256 .f32 := Memref.whole cc0_scratch1
abbrev rM : Memref sig .tc .vmem S512x256 .f32 := Memref.whole cc0_scratch2

/-- The barrier's semaphore, and the transfers': of the copy of `dy`, of the exchange with the peer (its departure and
    arrival, per half), of a hop (its departure and arrival). -/
abbrev barS : Sem sig := (SemArray.scalar (sig.barrier 0 rfl) : Sems sig S_).sem
abbrev dyS : DmaSem sig := (2 : Fin 71)
abbrev xsS (s : Fin 2) : DmaSem sig := (⟨3 + s.val, by omega⟩ : Fin 71)
abbrev xrS (s : Fin 2) : DmaSem sig := (⟨5 + s.val, by omega⟩ : Fin 71)
abbrev sndS (i : Hop) : DmaSem sig :=
  (⟨(bif i.1 then 39 else 7) + 2 * i.2.1.val + i.2.2.val, by cases i.1 <;> simp only [cond_true, cond_false] <;> omega⟩ : Fin 71)
abbrev rcvS (i : Hop) : DmaSem sig :=
  (⟨(bif i.1 then 55 else 23) + 2 * i.2.1.val + i.2.2.val, by cases i.1 <;> simp only [cond_true, cond_false] <;> omega⟩ : Fin 71)

/-! ## Views -/

/-- The columns of `dy` that belong to the device's chunk. -/
abbrev dySrc (c : Dev nD) : Memref sig .tc .hbm S1024x256 .f32 :=
  aM.slice (Rect.unit (s := S1024x4096) (k0_off1 c) S1024x256.size (k0_off1_inb c)) (fun _ => rfl)

/-- Where the half `s` of the rows sent to the peer lies in the buffer of partial products. -/
def xoff (c : Dev nD) (s : Fin 2) : Fin 2 → ℕ := ![k0_off4 c, k0_off5 c] s
/-- Where the half `s` of the rows kept lies there. -/
def koff (c : Dev nD) (s : Fin 2) : Fin 2 → ℕ := ![k0_off8 c, k0_off12 c] s
/-- Where the columns of a hop lie in the result, as the kernel computes it. -/
def cut (c : Dev nD) (i : Hop) : Fin 2 → ℕ :=
  (bif i.1 then k0_off11 else k0_off10) c (BitVec.ofNat 32 i.2.1.val) (BitVec.ofNat 32 (128 * i.2.2.val))

theorem xoff_inb : ∀ c s a, xoff c s a + S512x128.size a ≤ S1024x256.size a := by decide +kernel
theorem koff_inb : ∀ c s a, koff c s a + S512x128.size a ≤ S1024x256.size a := by decide +kernel
theorem cut_inb : ∀ c i a, cut c i a + S512x128.size a ≤ S512x4096.size a := by decide +kernel
theorem half_inb : ∀ (s : Fin 2) a, (![0, 128 * s.val] : Fin 2 → ℕ) a + S512x128.size a ≤ S512x256.size a := by decide +kernel

/-- The half `s` of the partial product for the peer, and of what the peer sends. -/
abbrev xsM (c : Dev nD) (s : Fin 2) : Memref sig .tc .vmem S512x128 .f32 :=
  pM.slice (Rect.unit (s := S1024x256) (xoff c s) S512x128.size (xoff_inb c s)) (fun _ => rfl)
abbrev xrM (s : Fin 2) : Memref sig .tc .vmem S512x128 .f32 :=
  rM.slice (Rect.unit (s := S512x256) ![0, 128 * s.val] S512x128.size (half_inb s)) (fun _ => rfl)
/-- The columns of a hop. -/
abbrev hopM (c : Dev nD) (i : Hop) : Memref sig .tc .vmem S512x128 .f32 :=
  oM.slice (Rect.unit (s := S512x4096) (cut c i) S512x128.size (cut_inb c i)) (fun _ => rfl)

/-! ## Devices -/

/-- The devices addressed, in program order. -/
def devs (c : Dev nD) : Fin 35 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩, ⟨k0_dev32 c, k0_dev32_lt c⟩,
    ⟨k0_dev33 c, k0_dev33_lt c⟩, ⟨k0_dev34 c, k0_dev34_lt c⟩, ⟨k0_dev35 c, k0_dev35_lt c⟩]

/-- The devices of the later hops. -/
def relayDevs (c : Dev nD) : List (Dev nD) := (List.finRange 26).map fun k => devs c (k.natAdd 9)

/-! ## The body -/

/-- The product of some columns of `x`, transposed, with the copied columns of `dy`. -/
def prod (x : Vec F S1024x512 .f32) (d : Vec F S1024x256 .f32) : FVec F S512x256 .f32 :=
  shapeCast S512x256 (matmul dot_S1024x512_S1024x256_S512x256_0_0_1_1_n_n none
    (shapeCast S1024x512 x shapeCasts_S1024x512_S1024x512) d (constant S512x256 .f32 0x00000000#32)) shapeCasts_S512x256_S512x256

/-- The kernel's operations. -/
abbrev Op (F : FTy → Type) : Type → Type := TpuEff nD τ sig (Elt F) Λ₀ .tc

/-- Waiting for what a hop brings, starting a hop, waiting until a hop has left. -/
abbrev waitRcv (c : Dev nD) (i : Hop) : Prog (Op F) PUnit :=
  Prog.lift (.waitDma2 (rcvS i) (hopM c i) (hopM c i) (View.wordExact_bits rfl) (View.wordExact_bits rfl))
abbrev sendHop (c : Dev nD) (i : Hop) (e : Dev nD) : Prog (Op F) PUnit :=
  Prog.lift (.enqueueDma (hopM c i) (.remote (Dev.tc e) (hopM c i) (.dma (sndS i))) (.dma (rcvS i))
    (View.wordExact_bits rfl) (View.wordExact_bits rfl) ⟨⟨rfl, Or.inl rfl⟩, trivial⟩)
abbrev waitSnd (c : Dev nD) (i : Hop) : Prog (Op F) PUnit :=
  Prog.lift (.waitDma2 (sndS i) (hopM c i) (hopM c i) (View.wordExact_bits rfl) (View.wordExact_bits rfl))

/-- The later hops, each once its predecessor has arrived; the last arrivals; the departures. -/
def tail (c : Dev nD) : Prog (Op F) PUnit :=
  Pipeline.chain (((relays.zip (relayDevs c)).flatMap fun p => [waitRcv c (before p.1), sendHop c p.1 p.2])
    ++ lasts.map (waitRcv c) ++ sends.map (waitSnd c))

/-- Starting the copy of the half `s` for the peer; waiting until it has left; waiting for the peer's. -/
abbrev sendX (c : Dev nD) (s : Fin 2) (e : Dev nD) : Prog (Op F) PUnit :=
  Prog.lift (.enqueueDma (xsM c s) (.remote (Dev.tc e) (xrM s) (.dma (xsS s))) (.dma (xrS s))
    (View.wordExact_bits rfl) (View.wordExact_bits rfl) ⟨⟨rfl, Or.inl rfl⟩, trivial⟩)
abbrev waitXs (c : Dev nD) (s : Fin 2) : Prog (Op F) PUnit :=
  Prog.lift (.waitDma2 (xsS s) (xrM s) (xsM c s) (View.wordExact_bits rfl) (View.wordExact_bits rfl))
abbrev waitXr (c : Dev nD) (s : Fin 2) : Prog (Op F) PUnit :=
  Prog.lift (.waitDma2 (xrS s) (xsM c s) (xrM s) (View.wordExact_bits rfl) (View.wordExact_bits rfl))

/-- Forming the product of the columns of `x` at `ox` in the rows of the buffer of partial products at `op`. -/
def formProd (ox : Fin 2 → ℕ) (hx : ∀ a, ox a + S1024x512.size a ≤ S1024x1024.size a)
    (op : Fin 2 → ℕ) (hp : ∀ a, op a + S512x256.size a ≤ S1024x256.size a) : Prog (Op F) PUnit := do
  let v ← Prog.lift (.load xM (Rect.unit (s := S1024x1024) ox S1024x512.size hx).toLoadRect (View.loadsAt_vmem h_S1024x512))
  let d ← Prog.lift (.load dM (Rect.unit (s := S1024x256) ![0, 0] S1024x256.size inb_S1024x256_S1024x256_0_0).toLoadRect (View.loadsAt_vmem h_S1024x256))
  let _ ← Prog.lift (.load pM (Rect.unit (s := S1024x256) op S512x256.size hp).toLoadRect (View.loadsAt_vmem h_S512x256))
  Prog.lift (.store pM (Rect.unit (s := S1024x256) op S512x256.size hp) (prod v d) Finset.univ (View.stores_vmem_bits_univ h_S512x256 rfl) (.inl rfl))

/-- Adding the half `s` of the rows kept and of what the peer sent into the result. -/
def addHalf (c : Dev nD) (s : Fin 2) : Prog (Op F) PUnit := do
  let a ← Prog.lift (.load pM (Rect.unit (s := S1024x256) (koff c s) S512x128.size (koff_inb c s)).toLoadRect (View.loadsAt_vmem h_S512x128))
  let b ← Prog.lift (.load rM (Rect.unit (s := S512x256) ![0, 128 * s.val] S512x128.size (half_inb s)).toLoadRect (View.loadsAt_vmem h_S512x128))
  let _ ← Prog.lift (.load oM (Rect.unit (s := S512x4096) (k0_off9 c (BitVec.ofNat 32 (128 * s.val))) S512x128.size (k0_off9_inb c s)).toLoadRect (View.loadsAt_vmem h_S512x128))
  Prog.lift (.store oM (Rect.unit (s := S512x4096) (k0_off9 c (BitVec.ofNat 32 (128 * s.val))) S512x128.size (k0_off9_inb c s)) (addf a b) Finset.univ (View.stores_vmem_bits_univ h_S512x128 rfl) (.inl rfl))

/-- The half `s` of the chunk: exchanged, added up, and started on both ways round the ring. -/
def openHalf (c : Dev nD) (s : Fin 2) (e e' : Dev nD) : Prog (Op F) PUnit := do
  waitXs c s
  waitXr c s
  addHalf c s
  sendHop c (false, 0, s) e
  sendHop c (true, 0, s) e'

/-- The body from the barrier on. -/
def head (c : Dev nD) : Prog (Op F) PUnit := do
  Prog.lift (.enqueueDma (dySrc c) (.here dM) (.dma dyS) (View.wordExact_bits rfl) (Memref.isWhole_whole _).wordExact ⟨Or.inl rfl, trivial⟩)
  semSignalWord (devs c 0) barS 1#32
  semSignalWord (devs c 1) barS 1#32
  semSignalWord (devs c 2) barS 1#32
  semWaitWord barS 3#32
  Prog.lift (.waitDma2 dyS (dySrc c) dM (View.wordExact_bits rfl) (Memref.isWhole_whole _).wordExact)
  formProd (k0_off2 c) (k0_off2_inb c) (k0_off3 c) (k0_off3_inb c)
  sendX c 0 (devs c 3)
  sendX c 1 (devs c 4)
  formProd (k0_off6 c) (k0_off6_inb c) (k0_off7 c) (k0_off7_inb c)
  openHalf c 0 (devs c 5) (devs c 6)
  openHalf c 1 (devs c 7) (devs c 8)
  tail c

def body : Prog (Op F) PUnit := do
  let c ← Prog.lift .deviceId
  head c

/-- It is the printed body. -/
theorem body_eq : cc0_body xM (Memref.isWhole_whole _) aM (Memref.isWhole_whole _) oM (Memref.isWhole_whole _)
    dM (Memref.isWhole_whole _) pM (Memref.isWhole_whole _) rM (Memref.isWhole_whole _)
    cc0_scratch3 cc0_scratch4 cc0_scratch5 cc0_scratch6 cc0_scratch7 cc0_scratch8 cc0_scratch9 = (body : Prog (Op F) PUnit) := by
  chain_rfl

/-! ## Closed forms -/

theorem devs_head : ∀ c, (List.ofFn fun k : Fin 9 => devs c (k.castAdd 26))
    = [peer c, nxt c, prv c, peer c, peer c, nxt c, prv c, nxt c, prv c] := by decide +kernel
theorem relayDevs_eq : ∀ c, relayDevs c = relays.map fun i => toE i.1 c := by decide +kernel

/-- The rows a device sends to its peer begin at `512` times the other plane, those it keeps at `512` times its own. -/
theorem off1_eq : ∀ c, k0_off1 c = ![0, 256 * (pos c).val] := by decide +kernel
theorem off2_eq : ∀ c, k0_off2 c = ![0, 512 * (plane c + 1).val] := by decide +kernel
theorem off3_eq : ∀ c, k0_off3 c = ![512 * (plane c + 1).val, 0] := by decide +kernel
theorem off6_eq : ∀ c, k0_off6 c = ![0, 512 * (plane c).val] := by decide +kernel
theorem off7_eq : ∀ c, k0_off7 c = ![512 * (plane c).val, 0] := by decide +kernel
theorem off9_eq : ∀ c (s : Fin 2), k0_off9 c (BitVec.ofNat 32 (128 * s.val)) = ![0, 128 * (ownq c s).val] := by decide +kernel
theorem xoff_eq : ∀ c s, xoff c s = ![512 * (plane c + 1).val, 128 * s.val] := by decide +kernel
theorem koff_eq : ∀ c s, koff c s = ![512 * (plane c).val, 128 * s.val] := by decide +kernel
theorem cut_eq : ∀ c i, cut c i = ![0, 128 * (srcq c i).val] := by decide +kernel

end Cert.KernelIdeal.Ring
-- ==== Proof.Blocks.lean ====
/-
# `Blocks`: what the buffers hold, and how the kernel's views cut them

The values are plain functions of the launch memory: a device's product for one plane's rows (`part`), the half of a
finished chunk (`chunk`), the 128 columns of a group of the result (`grpVal`), the whole result of a plane (`outB`).
-/
module

public import proofs.«01_k».proof.Proof.Program
public import Idealize.ShloMosaic.Lib.MemrefSat
public import Idealize.ShloMosaic.Lib.ValueIdxCore
public import Idealize.ShloMosaic.Lib.ViewIndex
public import Idealize.ShloMosaic.Lib.Pipeline.ValueKit

@[expose] public section

noncomputable section

namespace Cert.KernelIdeal.Ring

open Cert.KernelIdeal Cert.KernelIdeal.Facts₀
open Idealize.ShloMosaic hiding ix2 eq_ix2
open Idealize.ShloMosaic.TcCoe Idealize.SL.Sem Idealize.ShloMosaic.ValueIdx

variable {F : FTy → Type} [FloatOps F]

/-! ## Values -/

/-- The half `s` of the columns of a product. -/
def half (s : Fin 2) (v : Vec F S512x256 .f32) : Vec F S512x128 .f32 :=
  fun j => v (ix2 (n0 := 512) (n1 := 256) ⟨(j 0).val, idx2_lt0 j⟩ ⟨128 * s.val + (j 1).val, by have := idx2_lt1 j; omega⟩)

variable (m : (ℓ : Loc nD τ sig) → Buf (Elt F) ℓ)

/-- A device's block of `x`, its columns of its block of `dy`, the columns of `x` that give one plane's rows. -/
def xB (c : Dev nD) : Vec F S1024x1024 .f32 := (win0_0.blk (0 : Fin 1)).view.read (Elt F) (m ((c : Thread nD τ).loc main_arg0))
def dyB (c : Dev nD) : Vec F S1024x256 .f32 := (dySrc c).view.read (Elt F) (m ((c : Thread nD τ).loc main_arg1))
def cols (c : Dev nD) (o : Fin 2) : Vec F S1024x512 .f32 :=
  fun j => xB m c (ix2 (n0 := 1024) (n1 := 1024) ⟨(j 0).val, idx2_lt0 j⟩ ⟨512 * o.val + (j 1).val, by have := idx2_lt1 j; omega⟩)

/-- The device's product for a plane's rows; the half of its finished chunk; a group of a plane's result, and all of it. -/
def part (c : Dev nD) (o : Fin 2) : Vec F S512x256 .f32 := prod (cols m c o) (dyB m c)
def chunk (c : Dev nD) (s : Fin 2) : Vec F S512x128 .f32 :=
  addf (half s (part m c (plane c))) (half s (part m (peer c) (plane c)))
def grpVal (x : Fin 2) (q : Fin 32) : Vec F S512x128 .f32 :=
  chunk m (dev x ⟨q.val / 2, by omega⟩) ⟨q.val % 2, by omega⟩
def outB (x : Fin 2) : Vec F S512x4096 .f32 :=
  fun i => grpVal m x ⟨(i 1).val / 128, by have := idx2_lt1 i; omega⟩
    (ix2 (n0 := 512) (n1 := 128) ⟨(i 0).val, idx2_lt0 i⟩ ⟨(i 1).val % 128, by omega⟩)

theorem grpVal_own (c : Dev nD) (s : Fin 2) : grpVal m (plane c) (ownq c s) = chunk m c s := by
  have h1 : (⟨(ownq c s).val / 2, by omega⟩ : Fin 16) = pos c := Fin.ext (by simp only [ownq]; omega)
  have h2 : (⟨(ownq c s).val % 2, by omega⟩ : Fin 2) = s := Fin.ext (by simp only [ownq]; omega)
  unfold grpVal
  rw [h1, h2, dev_pos]

/-! ## Groups of the result's columns -/

theorem grp_inb : ∀ (q : Fin 32) a, (![0, 128 * q.val] : Fin 2 → ℕ) a + S512x128.size a ≤ S512x4096.size a := by decide +kernel

/-- The group `q` of 128 columns of the result. -/
abbrev grp (q : Fin 32) : Memref sig .tc .vmem S512x128 .f32 :=
  oM.slice (Rect.unit (s := S512x4096) ![0, 128 * q.val] S512x128.size (grp_inb q)) (fun _ => rfl)

/-- Slices at equal offsets are equal. -/
theorem slice_congr {sp : Space} {s : Shape} {e : EltTy} (M : Memref sig .tc sp s e) {off off' size : Fin s.rank → ℕ} (h : off = off')
    (p : ∀ a, off a + size a ≤ s.size a) (p' : ∀ a, off' a + size a ≤ s.size a) :
    M.slice (Rect.unit off size p) (fun _ => rfl) = M.slice (Rect.unit off' size p') (fun _ => rfl) := by
  subst h; rfl

theorem hopM_eq (c : Dev nD) (i : Hop) : hopM c i = grp (srcq c i) := slice_congr oM (cut_eq c i) _ _

theorem read_outB (x : Fin 2) (q : Fin 32) : (grp q).view.read (Elt F) (outB m x) = grpVal m x q := by
  funext j
  have e0 : ((grp q).view.emb j (0 : Fin 2)).val = 0 + (j 0).val := ValueKit.rect_emb_unit_val (s := S512x4096) _ _ (grp_inb q) j (0 : Fin 2)
  have e1 : ((grp q).view.emb j (1 : Fin 2)).val = 128 * q.val + (j 1).val := ValueKit.rect_emb_unit_val (s := S512x4096) _ _ (grp_inb q) j (1 : Fin 2)
  have hj := idx2_lt1 j
  show outB m x ((grp q).view.emb j) = _
  unfold outB
  refine congr (congrArg (grpVal m x) (Fin.ext ?_)) ((congrArg₂ ix2 (Fin.ext ?_) (Fin.ext ?_)).trans (eq_ix2 j).symm)
  · show ((grp q).view.emb j (1 : Fin 2)).val / 128 = _; rw [e1]; omega
  · show ((grp q).view.emb j (0 : Fin 2)).val = _; rw [e0]; omega
  · show ((grp q).view.emb j (1 : Fin 2)).val % 128 = _; rw [e1]; omega

/-- The groups are disjoint and make up the whole result. -/
theorem grp_disjoint (q q' : Fin 32) (h : q ≠ q') : Disjoint (grp q).view.set (grp q').view.set := by
  have : Disjoint (Rect.unit (s := S512x4096) ![0, 128 * q.val] S512x128.size (grp_inb q)).set
      (Rect.unit (s := S512x4096) ![0, 128 * q'.val] S512x128.size (grp_inb q')).set := by
    rw [Finset.disjoint_left]
    intro i hi hi'
    have h1 : 128 * q.val ≤ (i 1).val ∧ (i 1).val < 128 * q.val + 128 := Rect.mem_set_unit.mp hi (1 : Fin 2)
    have h2 : 128 * q'.val ≤ (i 1).val ∧ (i 1).val < 128 * q'.val + 128 := Rect.mem_set_unit.mp hi' (1 : Fin 2)
    exact h (Fin.ext (by omega))
  exact View.disjoint_slice this

theorem grp_cover : Finset.biUnion (β := S512x4096.Idx) Finset.univ (fun q => (grp q).view.set) = Finset.univ := by
  ext i
  simp only [Finset.mem_biUnion, Finset.mem_univ, true_and, iff_true]
  have h0 : (i (0 : Fin 2)).val < 512 := (i (0 : Fin 2)).isLt
  have h1 : (i (1 : Fin 2)).val < 4096 := (i (1 : Fin 2)).isLt
  refine ⟨⟨(i (1 : Fin 2)).val / 128, by omega⟩, ?_⟩
  have : i ∈ (Rect.unit (s := S512x4096) ![0, 128 * ((i (1 : Fin 2)).val / 128)] S512x128.size (grp_inb ⟨(i (1 : Fin 2)).val / 128, by omega⟩)).set := by
    refine Rect.mem_set_unit.mpr fun a => ?_
    match a with
    | ⟨0, _⟩ => exact ⟨Nat.zero_le _, show (i (0 : Fin 2)).val < 0 + 512 by omega⟩
    | ⟨1, _⟩ => exact ⟨show 128 * ((i (1 : Fin 2)).val / 128) ≤ (i (1 : Fin 2)).val by omega, show (i (1 : Fin 2)).val < 128 * ((i (1 : Fin 2)).val / 128) + 128 by omega⟩
  rw [View.set_slice_whole]
  exact this

/-! ## The products' buffer -/

/-- The columns of `x` loaded for the rows `o`. -/
theorem read_cols (c : Dev nD) (o : Fin 2) {off : Fin 2 → ℕ} (h : off = ![0, 512 * o.val]) (p : ∀ a, off a + S1024x512.size a ≤ S1024x1024.size a) :
    xM.view.readAt (Elt F) (Rect.unit (s := S1024x1024) off S1024x512.size p).toLoadRect (xB m c) = cols m c o := by
  subst h
  funext j
  have e0 : ((Rect.unit (s := S1024x1024) ![0, 512 * o.val] S1024x512.size p).emb j (0 : Fin 2)).val = 0 + (j 0).val := ValueKit.rect_emb_unit_val (s := S1024x1024) _ _ p j (0 : Fin 2)
  have e1 : ((Rect.unit (s := S1024x1024) ![0, 512 * o.val] S1024x512.size p).emb j (1 : Fin 2)).val = 512 * o.val + (j 1).val := ValueKit.rect_emb_unit_val (s := S1024x1024) _ _ p j (1 : Fin 2)
  show xB m c ((Rect.unit (s := S1024x1024) ![0, 512 * o.val] S1024x512.size p).emb j) = _
  unfold cols
  refine congrArg (xB m c) ((eq_ix2 _).trans (congrArg₂ ix2 (Fin.ext ?_) (Fin.ext ?_)))
  · rw [e0]; exact Nat.zero_add _
  · rw [e1]

/-- What is written through one rectangle of a view, read through another that lies in it. -/
theorem read_write_within {sp : Space} {s : Shape} {e : EltTy} (v : View sig .tc sp s e) (r r' : Rect s) (φ : r'.shape.Idx → r.shape.Idx)
    (h : ∀ j, r'.emb j = r.emb (φ j)) (f : v.ty.Contents (Elt F)) (w : r.shape.Idx → Elt F e) :
    (v.slice r').read (Elt F) ((v.slice r).write (Elt F) f w Finset.univ) = fun j => w (φ j) := by
  funext j
  have hw := View.read_write_of_mem (v := v.slice r) f w (Finset.mem_univ (φ j))
  refine Eq.trans ?_ hw
  rw [View.read_apply, View.read_apply, View.emb_slice, View.emb_slice, Function.Embedding.trans_apply, Function.Embedding.trans_apply, h j]

/-- A product written in the rows from `a` on, read back by halves. -/
theorem read_half {off off' : Fin 2 → ℕ} (a : ℕ) (s : Fin 2) (h : off = ![a, 0]) (h' : off' = ![a, 128 * s.val])
    (p : ∀ b, off b + S512x256.size b ≤ S1024x256.size b) (p' : ∀ b, off' b + S512x128.size b ≤ S1024x256.size b)
    (f : Vec F S1024x256 .f32) (w : Vec F S512x256 .f32) :
    (pM.view.slice (Rect.unit (s := S1024x256) off' S512x128.size p')).read (Elt F)
      ((pM.view.slice (Rect.unit (s := S1024x256) off S512x256.size p)).write (Elt F) f w Finset.univ) = half s w := by
  subst h h'
  refine read_write_within pM.view (Rect.unit (s := S1024x256) ![a, 0] S512x256.size p) (Rect.unit (s := S1024x256) ![a, 128 * s.val] S512x128.size p')
    (fun j => ix2 (n0 := 512) (n1 := 256) ⟨(j 0).val, idx2_lt0 j⟩ ⟨128 * s.val + (j 1).val, by have : (j 1).val < 128 := idx2_lt1 j; omega⟩) (fun j => ?_) f w
  funext b
  refine Fin.ext ((ValueKit.rect_emb_unit_val (s := S1024x256) _ _ p' j b).trans ?_)
  refine Eq.trans ?_ (ValueKit.rect_emb_unit_val (s := S1024x256) _ _ p _ b).symm
  match b with
  | ⟨0, _⟩ => rfl
  | ⟨1, _⟩ => show 128 * s.val + (j 1).val = 0 + (128 * s.val + (j 1).val); omega

/-- The rows written for one plane have nothing in common with the rows read for the other; the two halves neither. -/
theorem rows_disjoint {off off' size size' : Fin 2 → ℕ} {p : ∀ b, off b + size b ≤ S1024x256.size b} {p' : ∀ b, off' b + size' b ≤ S1024x256.size b}
    (a : Fin 2) (h : off a + size a ≤ off' a ∨ off' a + size' a ≤ off a) :
    Disjoint (pM.view.slice (Rect.unit (s := S1024x256) off size p)).set (pM.view.slice (Rect.unit (s := S1024x256) off' size' p')).set := by
  refine View.disjoint_slice ?_
  rw [Finset.disjoint_left]
  intro i hi hi'
  have h1 := Rect.mem_set_unit.mp hi a
  have h2 := Rect.mem_set_unit.mp hi' a
  omega

/-- The two halves of what the peer sends are the whole buffer it is received in. -/
theorem halves_disjoint (s s' : Fin 2) (h : s ≠ s') : Disjoint (xrM s).view.set (xrM s').view.set := by
  have : Disjoint (Rect.unit (s := S512x256) ![0, 128 * s.val] S512x128.size (half_inb s)).set
      (Rect.unit (s := S512x256) ![0, 128 * s'.val] S512x128.size (half_inb s')).set := by
    rw [Finset.disjoint_left]
    intro i hi hi'
    have h1 : 128 * s.val ≤ (i 1).val ∧ (i 1).val < 128 * s.val + 128 := Rect.mem_set_unit.mp hi (1 : Fin 2)
    have h2 : 128 * s'.val ≤ (i 1).val ∧ (i 1).val < 128 * s'.val + 128 := Rect.mem_set_unit.mp hi' (1 : Fin 2)
    exact h (Fin.ext (by omega))
  exact View.disjoint_slice this

theorem halves_cover : Finset.biUnion (β := S512x256.Idx) Finset.univ (fun s => (xrM s).view.set) = Finset.univ := by
  ext i
  simp only [Finset.mem_biUnion, Finset.mem_univ, true_and, iff_true]
  have h0 : (i (0 : Fin 2)).val < 512 := (i (0 : Fin 2)).isLt
  have h1 : (i (1 : Fin 2)).val < 256 := (i (1 : Fin 2)).isLt
  refine ⟨⟨(i (1 : Fin 2)).val / 128, by omega⟩, ?_⟩
  have : i ∈ (Rect.unit (s := S512x256) ![0, 128 * ((i (1 : Fin 2)).val / 128)] S512x128.size (half_inb ⟨(i (1 : Fin 2)).val / 128, by omega⟩)).set := by
    refine Rect.mem_set_unit.mpr fun a => ?_
    match a with
    | ⟨0, _⟩ => exact ⟨Nat.zero_le _, show (i (0 : Fin 2)).val < 0 + 512 by omega⟩
    | ⟨1, _⟩ => exact ⟨show 128 * ((i (1 : Fin 2)).val / 128) ≤ (i (1 : Fin 2)).val by omega, show (i (1 : Fin 2)).val < 128 * ((i (1 : Fin 2)).val / 128) + 128 by omega⟩
  rw [View.set_slice_whole]
  exact this

end Cert.KernelIdeal.Ring
-- ==== Proof.Schedule.lean ====
/-
# `Schedule`: what each semaphore is for

Every semaphore of the kernel is used in one round. What is raised on it brings its waiter a payload: on the barrier
the room to send into the three neighbours, on a departure semaphore the sent block back, on an arrival semaphore
the block that arrived. A device's debts are listed in program order (`pays`); a wait's index is below the
indices of all that is still to be paid then.
-/
module

public import proofs.«01_k».proof.Proof.Blocks
public import Idealize.ShloMosaic.Lib.Pipeline.TalkSites
public import Idealize.ShloMosaic.Lib.Pipeline.BigSepL
public import Idealize.ShloMosaic.Lib.Tactic

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos cred_tallyL)

variable {F : FTy → Type} [FloatOps F]

/-! ## The resource algebra: the staging's copy and the ring's -/

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Cells -/

abbrev barC (c : Dev nD) : GSem nD τ sig := ((c : Thread nD τ), .reg barS)
abbrev dmaC (c : Dev nD) (k : DmaSem sig) : GSem nD τ sig := ((c : Thread nD τ), .dma k)

/-- A transfer's amount: of a block of 512 by 128, of the copied columns of `dy`. -/
def blkN : ℕ := (grp 0).view.dmaCredit
def dyN : ℕ := dM.view.dmaCredit
theorem blkN_pos : 0 < blkN := View.dmaCredit_pos _ (by decide)
theorem dyN_pos : 0 < dyN := View.dmaCredit_pos _ (by decide)

/-- What a transfer's semaphore is for: the copy of `dy`; the exchange's departure or arrival (`true`) of a half; a hop's
    departure or arrival. -/
def role (k : DmaSem sig) : Option ((Bool × Fin 2) ⊕ (Bool × Hop)) :=
  if k.val ≤ 2 then none
  else if k.val < 7 then some (.inl (decide (5 ≤ k.val), ⟨(k.val - 3) % 2, Nat.mod_lt _ (by decide)⟩))
  else some (.inr (decide ((k.val - 7) / 16 % 2 = 1), (decide (39 ≤ k.val),
    ⟨(k.val - 7) % 16 / 2, by omega⟩, ⟨(k.val - 7) % 2, Nat.mod_lt _ (by decide)⟩)))

theorem role_dy : role dyS = none := by decide +kernel
theorem role_xs : ∀ s, role (xsS s) = some (.inl (false, s)) := by decide +kernel
theorem role_xr : ∀ s, role (xrS s) = some (.inl (true, s)) := by decide +kernel
theorem role_snd : ∀ i, role (sndS i) = some (.inr (false, i)) := by decide +kernel
theorem role_rcv : ∀ i, role (rcvS i) = some (.inr (true, i)) := by decide +kernel

/-- Every semaphore but two hops' is used. -/
def used (k : DmaSem sig) : Bool := match role k with
  | some (.inr (_, i)) => decide (i ∈ hops)
  | _ => true

theorem used_xs : ∀ s, used (xsS s) = true := by decide +kernel
theorem used_xr : ∀ s, used (xrS s) = true := by decide +kernel
theorem used_snd : ∀ i ∈ hops, used (sndS i) = true := by decide +kernel
theorem used_rcv : ∀ i ∈ hops, used (rcvS i) = true := by decide +kernel

/-! ## Payloads -/

/-- The share of its columns a hop borrows: both first hops of a half send the same columns. -/
def shr (i : Hop) : PosShare TreeShare :=
  if i.2.1 = 0 then (bif i.1 then fullShare.right else fullShare.left) else fullShare

/-- The room a hop lands in on device `c`, at some contents. -/
def room (c : Dev nD) (i : Hop) : sProp 𝕄 := iprop(∃ X, owns (c : Thread nD τ) (grp (landq c i)) fullShare X)
/-- The room for a half of the peer's product. -/
def roomX (c : Dev nD) (s : Fin 2) : sProp 𝕄 := iprop(∃ X, owns (c : Thread nD τ) (xrM s) fullShare X)

/-- The hops of a direction. -/
def hopsOf (d : Bool) : List Hop := hops.filter fun i => i.1 = d

/-- What the barrier brings: the room on the peer, on the next device, on the one before. -/
def barPay (c : Dev nD) (d : Fin 3) : sProp 𝕄 := match d with
  | 0 => bigSepL [(0 : Fin 2), 1] fun s => roomX (peer c) s
  | 1 => bigSepL (hopsOf false) fun i => room (toE false c) i
  | 2 => bigSepL (hopsOf true) fun i => room (toE true c) i

/-- What a transfer's semaphore brings. -/
def dmaPay (c : Dev nD) (k : DmaSem sig) : sProp 𝕄 := match role k with
  | none => iprop(owns (c : Thread nD τ) dM fullShare (dyB m c)
      ∗ ((dySrc c).view.loc (c : Thread nD τ) ↦[(dySrc c).view.set]{fullShare} m ((c : Thread nD τ).loc main_arg1)))
  | some (.inl (false, s)) => iprop(∃ X, owns (c : Thread nD τ) (xsM c s) fullShare X)
  | some (.inl (true, s)) => owns (c : Thread nD τ) (xrM s) fullShare (half s (part m (peer c) (plane c)))
  | some (.inr (false, i)) => owns (c : Thread nD τ) (grp (srcq c i)) (shr i) (grpVal m (plane c) (srcq c i))
  | some (.inr (true, i)) => owns (c : Thread nD τ) (grp (landq c i)) fullShare (grpVal m (plane c) (landq c i))

theorem pay_dy (c : Dev nD) : dmaPay m c dyS = iprop(owns (c : Thread nD τ) dM fullShare (dyB m c)
      ∗ ((dySrc c).view.loc (c : Thread nD τ) ↦[(dySrc c).view.set]{fullShare} m ((c : Thread nD τ).loc main_arg1))) := by
  unfold dmaPay; rw [role_dy]
theorem pay_xs (c : Dev nD) (s : Fin 2) : dmaPay m c (xsS s) = iprop(∃ X, owns (c : Thread nD τ) (xsM c s) fullShare X) := by
  unfold dmaPay; rw [role_xs]
theorem pay_xr (c : Dev nD) (s : Fin 2) : dmaPay m c (xrS s) = owns (c : Thread nD τ) (xrM s) fullShare (half s (part m (peer c) (plane c))) := by
  unfold dmaPay; rw [role_xr]
theorem pay_snd (c : Dev nD) (i : Hop) : dmaPay m c (sndS i) = owns (c : Thread nD τ) (grp (srcq c i)) (shr i) (grpVal m (plane c) (srcq c i)) := by
  unfold dmaPay; rw [role_snd]
theorem pay_rcv (c : Dev nD) (i : Hop) : dmaPay m c (rcvS i) = owns (c : Thread nD τ) (grp (landq c i)) fullShare (grpVal m (plane c) (landq c i)) := by
  unfold dmaPay; rw [role_rcv]

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact BI.Storable.emp _
  | cons i l ih => rw [bigSepL_cons]; exact BI.Storable.sep _ _ _
instance room_storable (c : Dev nD) (i : Hop) : BI.Storable (upEmb : UEmb _ 𝕄) (room (F := F) c i) := by unfold room; infer_instance
instance roomX_storable (c : Dev nD) (s : Fin 2) : BI.Storable (upEmb : UEmb _ 𝕄) (roomX (F := F) c s) := by unfold roomX; infer_instance
instance barPay_storable (c : Dev nD) (d : Fin 3) : BI.Storable (upEmb : UEmb _ 𝕄) (barPay (F := F) c d) := by
  unfold barPay; split <;> infer_instance
instance dmaPay_storable (c : Dev nD) (k : DmaSem sig) : BI.Storable (upEmb : UEmb _ 𝕄) (dmaPay m c k) := by
  unfold dmaPay; split <;> infer_instance

/-! ## The schedule -/

def amt (k : DmaSem sig) : ℕ := if k = dyS then dyN else blkN

/-- One round: three duties of one unit on the barrier (from the peer, from the next device, from the one before), one
    duty on a transfer's semaphore that is used. -/
def rounds : Rounds.Schedule (GSem nD τ sig) (Fin 3) 𝕄 where
  duties g r := if r = 0 then (match g.2 with | .reg _ => Finset.univ | .dma k => if used k then {0} else ∅) else ∅
  unitless _ := False
  amount g _ _ := match g.2 with | .reg _ => 1 | .dma k => amt k
  payload g _ d := match g.2 with | .reg _ => barPay g.1.1 d | .dma k => dmaPay m g.1.1 k
  amount_pos g _ _ _ := by
    cases g.2 with
    | reg _ => exact Nat.one_pos
    | dma k => show 0 < amt k; unfold amt; split; exact dyN_pos; exact blkN_pos

instance rounds_payload_storable (g : GSem nD τ sig) (r : ℕ) (d : Fin 3) :
    BI.Storable (upEmb : UEmb _ 𝕄) ((rounds m).payload g r d) := by
  show BI.Storable upEmb (match g.2 with | .reg _ => barPay g.1.1 d | .dma k => dmaPay m g.1.1 k)
  split <;> infer_instance

section Sched
variable (c : Dev nD) {k : DmaSem sig}

theorem duties_bar : (rounds m).duties (barC c) 0 = Finset.univ := rfl
theorem duties_dma (h : used k = true) : (rounds m).duties (dmaC c k) 0 = {0} := if_pos h
theorem duties_later (g : GSem nD τ sig) : ∀ r, 1 ≤ r → (rounds m).duties g r = ∅ :=
  fun r hr => by dsimp only [rounds]; exact if_neg (by omega)
theorem duties_unused (h : used k = false) : ∀ r, 0 ≤ r → (rounds m).duties (dmaC c k) r = ∅ := fun r _ => by
  dsimp only [rounds]; rw [h]; split <;> rfl
theorem amount_bar (d : Fin 3) : (rounds m).amount (barC c) 0 d = 1 := rfl
theorem amount_dma (d : Fin 3) : (rounds m).amount (dmaC c k) 0 d = amt k := rfl
theorem payload_bar (d : Fin 3) : (rounds m).payload (barC c) 0 d = barPay c d := rfl
theorem payload_dma (d : Fin 3) : (rounds m).payload (dmaC c k) 0 d = dmaPay m c k := rfl

theorem expect_bar : (rounds m).expect (barC c) 0 = 3 := by
  unfold Schedule.expect Schedule.amountOf
  rw [duties_bar, Finset.sum_congr rfl fun d _ => amount_bar m c d]; rfl
theorem expect_dma (h : used k = true) : (rounds m).expect (dmaC c k) 0 = amt k := by
  unfold Schedule.expect Schedule.amountOf; rw [duties_dma m c h, Finset.sum_singleton, amount_dma]
theorem rest_bar : bigSep ((rounds m).duties (barC c) 0 \ ∅) (fun d => (rounds m).payload (barC c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_dma (h : used k = true) : bigSep ((rounds m).duties (dmaC c k) 0 \ ∅) (fun d => (rounds m).payload (dmaC c k) 0 d) = dmaPay m c k := by
  rw [Finset.sdiff_empty, duties_dma m c h, bigSep_singleton, payload_dma]

end Sched

/-! ## Debts -/

/-- Debts as a device has them, each with the neighbour it is owed to. -/
abbrev Due : Type := Equiv.Perm (Dev nD) × SemLoc sig × ℕ × ℕ

/-- A hop's debt: its arrival. -/
def dueHop (i : Hop) : Due := (toE i.1, .dma (rcvS i), 3 + i.2.1.val, blkN)
def dueX (s : Fin 2) : Due := (peerE, .dma (xrS s), 2, blkN)
def dues : List Due :=
  [(peerE, .reg barS, 1, 1), (nxtE, .reg barS, 1, 1), (nxtE.symm, .reg barS, 1, 1), dueX 0, dueX 1] ++ hops.map dueHop

/-- A debt of device `c`; what it is to get in return, on its own cell. -/
def payOf (c : Dev nD) (e : Due) : Pay nD τ sig := ((((e.1 c : Dev nD) : Thread nD τ), e.2.1), e.2.2)
def getOf (c : Dev nD) (e : Due) : Pay nD τ sig := (((c : Thread nD τ), e.2.1), e.2.2)

/-- What device `c` owes of a list of debts. -/
def owing (c : Dev nD) (l : List Due) : CellTallies nD τ sig ℕ := tallyL (l.map (payOf c))

theorem owing_cons (c : Dev nD) (e : Due) (l : List Due) :
    owing c (e :: l) = owing c l + tallyAt (((e.1 c : Dev nD) : Thread nD τ), e.2.1) e.2.2.1 e.2.2.2 := by
  show tallyAt _ _ _ + _ = _
  exact add_comm _ _
theorem owing_nil (c : Dev nD) : owing c [] = 0 := rfl

/-- The number of indices. -/
abbrev NL : ℕ := 11
abbrev L (g : GSem nD τ sig) : Finset ℕ := SiteBlocks.L NL g
abbrev lv (g : GSem nD τ sig) (i : ℕ) : ℕ := SiteBlocks.lv g i

/-- A wait below the indices of all that is owed. -/
theorem mayWait (c : Dev nD) (sm : SemLoc sig) (i : ℕ) (hi : i < NL) (l : List Due) (hl : ∀ e ∈ l, i < e.2.2.1 ∧ e.2.2.1 < NL) :
    (levAts L lv : sProp 𝕄) ⊢ MayWait (c : Thread nD τ) sm i (owing c l) :=
  SiteBlocks.mayWait_of hi c sm _ fun g k h => by
    obtain ⟨x, hx, rfl, rfl⟩ := tallyL_pos h
    obtain ⟨e, he, rfl⟩ := List.mem_map.mp hx
    exact ⟨SiteBlocks.mem_L _ _ (hl e he).2, (hl e he).1⟩

end Cert.KernelIdeal.Ring
-- ==== Proof.Steps.lean ====
/-
# `Steps`: one rule for every wait, one for every hop

The runs of the body are the same few operations over and over: a wait on a transfer's semaphore, a hop, the later hops
in a list. Each is proved once, for any device and any hop.
-/
module

public import proofs.«01_k».proof.Proof.Schedule

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## What is known of every semaphore -/

/-- The schedule of a semaphore is in force and its round has begun. -/
def knows (c : Dev nD) (sm : SemLoc sig) : sProp 𝕄 :=
  iprop(∃ κ, cellInv ER (rounds m) κ ((c : Thread nD τ), sm) ∗ reached ER ((c : Thread nD τ), sm) 0)
instance (c : Dev nD) (sm : SemLoc sig) : Persistent (knows m c sm) := by unfold knows; infer_instance

/-- The semaphores with a schedule: all but the staging's. -/
def csem (k : Fin 70) : SemLoc sig := if k = 0 then .reg barS else .dma (⟨k.val + 1, by omega⟩ : Fin 71)

def records : sProp 𝕄 := bigSep Finset.univ fun ck : Dev nD × Fin 70 => knows m ck.1 (csem ck.2)
instance : Persistent (records m) := by unfold records; infer_instance

theorem records_bar (c : Dev nD) : records m ⊢ knows m c (.reg barS) :=
  bigSep_elim (Finset.mem_univ ((c, 0) : Dev nD × Fin 70))
theorem csem_dma : ∀ k : Fin 71, (h : 2 ≤ k.val) → csem ⟨k.val - 1, by omega⟩ = .dma k := by
  intro k h; unfold csem
  rw [if_neg (by intro e; have := congrArg Fin.val e; simp at this; omega)]
  exact congrArg _ (Fin.ext (by show k.val - 1 + 1 = k.val; omega))
theorem records_dma (c : Dev nD) (k : Fin 71) (h : 2 ≤ k.val) : records m ⊢ knows m c (.dma k) := by
  rw [← csem_dma k h]
  exact bigSep_elim (Finset.mem_univ ((c, ⟨k.val - 1, by omega⟩) : Dev nD × Fin 70))

theorem two_le_snd (i : Hop) : 2 ≤ (sndS i).val := by cases hi : i.1 <;> simp [hi] <;> omega
theorem two_le_rcv (i : Hop) : 2 ≤ (rcvS i).val := by cases hi : i.1 <;> simp [hi] <;> omega

/-! ## Waiting for a transfer -/

theorem wp_wait_dma (c : Dev nD) (k : DmaSem sig) (hu : used k = true) (h2 : 2 ≤ k.val) {w : Op F PUnit} {n : ℕ}
    (hn : n = amt k) (hw : ∀ K : PUnit → sProp 𝕄, wpE (defs₀ (F := F)) 𝒱₀ (c : Thread nD τ) none Set.univ w K = waitSpec (c : Thread nD τ) Set.univ (.dma k) n K)
    (ι : ℕ) (hι : ι < NL) (l : List Due) (hl : ∀ e ∈ l, ι < e.2.2.1 ∧ e.2.2.1 < NL) (W : Waits sig ℕ)
    {α : Type} {Q : α → sProp 𝕄} {kk : PUnit → Prog (Op F) α} :
    iprop(records m ∗ levAts L lv ∗ cred (tallyAt (dmaC c k) ι (amt k)) ∗ owes (c : Thread nD τ) (owing c l) W ∗ atPos ER (dmaC c k) 0 ∅ 0)
      ⊢ iprop(((owes (c : Thread nD τ) (owing c l) (insert (SemLoc.dma k, ι) W) ∗ atPos ER (dmaC c k) 1 ∅ 0 ∗ dmaPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hn
  iintro ⟨#HR, #Hlev, Hc, HO, Hat⟩ Hk
  ihave Hkn := (records_dma m c k h2) $$ HR
  unfold knows
  icases Hkn with ⟨%κ, #HI, #Hr⟩
  iapply (Rounds.wp_wait_rest_token 𝒱₀ ER (rounds m) (c : Thread nD τ) none (κ := κ) hw (Set.mem_univ _) ι
      (O := owing c l) (W := W) (R := 0) (m := 0) (T := ∅) (by rw [Nat.zero_add, expect_dma m c hu])) $$ [Hc HO Hat]
  · isplitr; · iexact HI
    isplitl [Hc]; · iexact Hc
    isplitl [HO]; · iexact HO
    isplitr; · iapply (mayWait c (.dma k) ι hι l hl); iexact Hlev
    iexact Hat
  iintro ⟨HO, Hat, -, Hpay⟩
  ihave Hp := (Entails.of_eq (rest_dma m c hu)) $$ Hpay
  iapply Hk
  isplitl [HO]; · iexact HO
  isplitl [Hat]; · iexact Hat
  iexact Hp

/-! ## Sending to another device -/

theorem owns_of_read (c : Thread nD τ) {sp : Space} {sh : Shape} {e : EltTy} (M : Memref sig c.2.kind sp sh e) (q : PosShare TreeShare)
    {f : M.view.ty.Contents (Elt F)} {X : sh.Idx → Elt F e} (h : M.view.read (Elt F) f = X) :
    (M.view.loc c ↦[M.view.set]{q} f : sProp 𝕄) ⊢ owns c M q X := h ▸ owns_intro c M q f

/-- A transfer of a block from `M` here to `M'` on device `e`, paying the duty of the departure semaphore `ks` here and of the
    arrival semaphore `kr` there; on either the payload is the block. -/
theorem wp_send_block (c e : Dev nD) (ks kr : DmaSem sig) (hus : used ks = true) (hur : used kr = true) (h2s : 2 ≤ ks.val) (h2r : 2 ≤ kr.val)
    (M M' : Memref sig .tc .vmem S512x128 .f32) (q : PosShare TreeShare) (X : Vec F S512x128 .f32)
    (hN : M'.view.dmaCredit = blkN) (has : amt ks = blkN) (har : amt kr = blkN)
    (hps : owns (c : Thread nD τ) M q X ⊢ dmaPay m c ks) (hpr : owns (e : Thread nD τ) M' fullShare X ⊢ dmaPay m e kr)
    (e' : Dev nD) (he : e' = e) {hsc : M'.view.ref.isScScratch = false}
    {hsrc : M.view.WordExact} {hdst : M'.view.WordExact} {hsem : DmaTarget.Typed .vmem (.dma kr) (.remote (Dev.tc e' : Thread nD τ) M' (.dma ks) hsc)}
    (ι : ℕ) {O₀ : CellTallies nD τ sig ℕ} (O : CellTallies nD τ sig ℕ) (hO : O₀ = O + tallyAt (dmaC e kr) ι blkN) (W : Waits sig ℕ)
    {α : Type} {Q : α → sProp 𝕄} {k : PUnit → Prog (Op F) α} :
    iprop(records m ∗ owns (c : Thread nD τ) M q X ∗ (∃ Y, owns (e : Thread nD τ) M' fullShare Y)
        ∗ owes (c : Thread nD τ) O₀ W ∗ dutyTok ER (dmaC c ks) 0 0 ∗ dutyTok ER (dmaC e kr) 0 0)
      ⊢ iprop(((cred (tallyAt (dmaC c ks) 0 blkN) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc e') M' (.dma ks) hsc) (.dma kr) hsrc hdst hsem) k) Q) := by
  subst he
  iintro ⟨#HR, HM, ⟨%Y, HM'⟩, HO, Hts, Htr⟩ Hk
  ihave Hk1 := (records_dma m c ks h2s) $$ HR
  ihave Hk2 := (records_dma m e' kr h2r) $$ HR
  unfold knows
  icases Hk1 with ⟨%κ₁, #HI1, #Hr1⟩
  icases Hk2 with ⟨%κ₂, #HI2, #Hr2⟩
  unfold owns
  icases HM with ⟨%f, %hf, HM⟩
  icases HM' with ⟨%g, %hg, HM'⟩
  iapply (Rounds.wp_send_pointsTo 𝒱₀ ER (rounds m) (c : Thread nD τ) none (c' := (e' : Thread nD τ)) (src := M) (dst := M')
      (sS := .dma ks) (sem := .dma kr) (q := q) (κ₁ := κ₁) (κ₂ := κ₂)
      (r₁ := 0) (r₂ := 0) (d₁ := 0) (d₂ := 0) (fs := f) (fd := g)
      (by rw [duties_dma m c hus]; exact Finset.mem_singleton_self _) (by rw [duties_dma m e' hur]; exact Finset.mem_singleton_self _)
      ι 0 blkN hN ((amount_dma m c 0).trans has) ((amount_dma m e' 0).trans har) O hO (W := W)
      ((owns_of_read (c : Thread nD τ) M q hf).trans (hps.trans (Entails.of_eq (payload_dma m c 0).symm)))
      ((owns_of_read (e' : Thread nD τ) M' fullShare ((View.read_write_univ g _).trans hf)).trans (hpr.trans (Entails.of_eq (payload_dma m e' 0).symm))))
    $$ [HM HM' HO Hts Htr]
  · isplitr; · iexact HI1
    isplitr; · iexact HI2
    isplitl [HM]; · iexact HM
    isplitl [HM']; · iexact HM'
    isplitl [HO]; · iexact HO
    isplitl [Hts]; · iexact Hts
    isplitr; · iexact Hr1
    isplitl [Htr]; · iexact Htr
    iexact Hr2
  iexact Hk

/-! ## Lists of resources -/

theorem sep_swap (A B C D : sProp 𝕄) : iprop((A ∗ B) ∗ C ∗ D) ⊢ iprop((A ∗ C) ∗ B ∗ D) := by
  iintro ⟨⟨H1, H2⟩, H3, H4⟩
  isplitl [H1 H3]; · isplitl [H1] <;> iassumption
  isplitl [H2] <;> iassumption

theorem bigSepL_sep {I : Type} (l : List I) (Φ Ψ : I → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    exact Entails.antisymm (sep_swap _ _ _ _) (sep_swap _ _ _ _)

theorem bigSepL_swap {I : Type} (i j : I) (l : List I) (Φ : I → sProp 𝕄) : bigSepL (i :: j :: l) Φ ⊢ bigSepL (j :: i :: l) Φ := by
  rw [bigSepL_cons', bigSepL_cons', bigSepL_cons', bigSepL_cons']
  iintro ⟨H1, H2, H3⟩
  isplitl [H2]; · iexact H2
  isplitl [H1] <;> iassumption

theorem bigSepL_of_perm {I : Type} {l l' : List I} (h : l.Perm l') (Φ : I → sProp 𝕄) : bigSepL l Φ = bigSepL l' Φ := by
  induction h with
  | nil => rfl
  | cons i _ ih => rw [bigSepL_cons', bigSepL_cons', ih]
  | swap i j l => exact Entails.antisymm (bigSepL_swap _ _ _ _) (bigSepL_swap _ _ _ _)
  | trans _ _ h1 h2 => exact h1.trans h2

/-! ## A hop -/

theorem amt_snd : ∀ i : Hop, amt (sndS i) = blkN := fun i => if_neg ((by decide +kernel : ∀ i : Hop, sndS i ≠ dyS) i)
theorem amt_rcv : ∀ i : Hop, amt (rcvS i) = blkN := fun i => if_neg ((by decide +kernel : ∀ i : Hop, rcvS i ≠ dyS) i)
theorem amt_xs : ∀ s, amt (xsS s) = blkN := fun i => if_neg ((by decide +kernel : ∀ i, xsS i ≠ dyS) i)
theorem amt_xr : ∀ s, amt (xrS s) = blkN := fun i => if_neg ((by decide +kernel : ∀ i, xrS i ≠ dyS) i)
theorem amt_dy : amt dyS = dyN := if_pos rfl
theorem hopM_credit (c : Dev nD) (i : Hop) : (hopM c i).view.dmaCredit = blkN := rfl
theorem xrM_credit (s : Fin 2) : (xrM s).view.dmaCredit = blkN := rfl

theorem room_to (c : Dev nD) (i : Hop) : room (F := F) (toE i.1 c) i
    = iprop(∃ X, owns ((toE i.1 c : Dev nD) : Thread nD τ) (hopM c i) fullShare X) := by
  unfold room; rw [landq_to, hopM_eq]

/-- A hop: the block of its columns goes to the neighbour's, the room there was granted by the barrier. -/
theorem wp_hop (c : Dev nD) (i : Hop) (hi : i ∈ hops) (e : Dev nD) (he : e = toE i.1 c)
    {hsc : (hopM c i).view.ref.isScScratch = false} {hsrc hdst : (hopM c i).view.WordExact}
    {hsem : DmaTarget.Typed .vmem (.dma (rcvS i)) (.remote (Dev.tc e : Thread nD τ) (hopM c i) (.dma (sndS i)) hsc)}
    (l : List Due) (W : Waits sig ℕ) {α : Type} {Q : α → sProp 𝕄} {k : PUnit → Prog (Op F) α} :
    iprop(records m ∗ owns (c : Thread nD τ) (grp (srcq c i)) (shr i) (grpVal m (plane c) (srcq c i)) ∗ room (toE i.1 c) i
        ∗ owes (c : Thread nD τ) (owing c (dueHop i :: l)) W ∗ dutyTok ER (dmaC c (sndS i)) 0 0 ∗ dutyTok ER (dmaC (toE i.1 c) (rcvS i)) 0 0)
      ⊢ iprop(((cred (tallyAt (dmaC c (sndS i)) 0 blkN) ∗ owes (c : Thread nD τ) (owing c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hopM c i) (.remote (Dev.tc e) (hopM c i) (.dma (sndS i)) hsc) (.dma (rcvS i)) hsrc hdst hsem) k) Q) := by
  rw [room_to, ← hopM_eq c i]
  exact wp_send_block m c (toE i.1 c) (sndS i) (rcvS i) (used_snd i hi) (used_rcv i hi) (two_le_snd i) (two_le_rcv i)
    (hopM c i) (hopM c i) (shr i) (grpVal m (plane c) (srcq c i)) (hopM_credit c i) (amt_snd i) (amt_rcv i)
    (by rw [pay_snd, hopM_eq]) (by rw [pay_rcv, hopM_eq, landq_to, plane_to]) e he (3 + i.2.1.val) (owing c l) (owing_cons c _ _) W

/-! ## The later hops -/

theorem relays_hops : ∀ i ∈ relays, i ∈ hops := fun i hi => List.mem_append_right _ hi
theorem before_hops : ∀ i ∈ relays, before i ∈ hops := by decide +kernel
theorem before_lt : ∀ i ∈ relays, (before i).2.1.val < i.2.1.val := by decide +kernel
theorem relays_sorted : relays.Pairwise fun i j => i.2.1 ≤ j.2.1 := by decide +kernel
theorem shr_relay : ∀ i ∈ relays, shr i = fullShare := fun i hi => if_neg ((by decide +kernel : ∀ i ∈ relays, i.2.1 ≠ 0) i hi)

/-- What a later hop takes: what its predecessor's arrival is waited for with, the two duties it pays, its room. -/
def relayPre (c : Dev nD) (i : Hop) : sProp 𝕄 :=
  iprop(cred (tallyAt (dmaC c (rcvS (before i))) (3 + (before i).2.1.val) blkN) ∗ atPos ER (dmaC c (rcvS (before i))) 0 ∅ 0
    ∗ dutyTok ER (dmaC c (sndS i)) 0 0 ∗ dutyTok ER (dmaC (toE i.1 c) (rcvS i)) 0 0 ∗ room (toE i.1 c) i)
/-- What it leaves. -/
def relayPost (c : Dev nD) (i : Hop) : sProp 𝕄 :=
  iprop(atPos ER (dmaC c (rcvS (before i))) 1 ∅ 0 ∗ cred (tallyAt (dmaC c (sndS i)) 0 blkN))

theorem wp_relays (c : Dev nD) {Q : PUnit → sProp 𝕄} (rest : List (Prog (Op F) PUnit)) :
    ∀ (l : List Hop), (∀ i ∈ l, i ∈ relays) → (l.Pairwise fun i j => i.2.1 ≤ j.2.1) → ∀ W : Waits sig ℕ,
    iprop(records m ∗ levAts L lv ∗ owes (c : Thread nD τ) (owing c (l.map dueHop)) W ∗ bigSepL l (relayPre c))
      ⊢ iprop((((∃ W, owes (c : Thread nD τ) 0 W) ∗ bigSepL l (relayPost c))
            -∗ wp frame (wpE (defs₀ (F := F)) 𝒱₀ (c : Thread nD τ) none) Set.univ (Pipeline.chain rest) Q)
          -∗ wp frame (wpE (defs₀ (F := F)) 𝒱₀ (c : Thread nD τ) none) Set.univ
              (Pipeline.chain ((l.flatMap fun i => [waitRcv c (before i), sendHop c i (toE i.1 c)]) ++ rest)) Q)
  | [], _, _, W => by
    iintro ⟨-, -, HO, HL⟩ Hk
    iapply Hk
    isplitl [HO]; · iexists W; iexact HO
    iexact HL
  | i :: l, hl, hp, W => by
    have hi := hl i List.mem_cons_self
    have hlt := before_lt i hi
    have hle : ∀ j ∈ i :: l, i.2.1.val ≤ j.2.1.val := fun j hj => by
      rcases List.mem_cons.mp hj with rfl | hj
      · exact le_refl _
      · exact (List.pairwise_cons.mp hp).1 j hj
    show _ ⊢ iprop(_ -∗ wp frame _ Set.univ (waitRcv c (before i) >>= fun _ => sendHop c i (toE i.1 c) >>= fun _ => Pipeline.chain _) Q)
    simp only [Prog.lift, Prog.bind_op, Prog.bind_ret]
    rw [bigSepL_cons', bigSepL_cons']
    unfold relayPre relayPost
    iintro ⟨#HR, #Hlev, HO, ⟨Hc, Hat, Hts, Htr, Hroom⟩, HL⟩ Hk
    iapply (wp_wait_dma m c (rcvS (before i)) (used_rcv _ (before_hops i hi)) (two_le_rcv _) ((hopM_credit c _).trans (amt_rcv _).symm)
      (wpE_waitDma2_eq 𝒱₀ (c : Thread nD τ) none Set.univ) (3 + (before i).2.1.val) (by have := (before i).2.1.isLt; show _ < 11; omega)
      ((i :: l).map dueHop) (fun e he => by
        obtain ⟨j, hj, rfl⟩ := List.mem_map.mp he
        have := hle j hj; have := j.2.1.isLt
        constructor
        · show 3 + (before i).2.1.val < 3 + j.2.1.val; omega
        · show 3 + j.2.1.val < 11; omega) W) $$ [Hc HO Hat]
    · isplitr; · iexact HR
      isplitr; · iexact Hlev
      isplitl [Hc]; · rw [amt_rcv]; iexact Hc
      isplitl [HO]; · iexact HO
      iexact Hat
    iintro ⟨HO, Hat, Hp⟩
    ihave Hp := (Entails.of_eq ((pay_rcv m c (before i)).trans (by rw [← srcq_relay c i hi, ← shr_relay i hi]))) $$ Hp
    iapply (wp_hop m c i (relays_hops i hi) _ rfl (l.map dueHop) _) $$ [Hp Hroom HO Hts Htr]
    · isplitr; · iexact HR
      isplitl [Hp]; · iexact Hp
      isplitl [Hroom]; · iexact Hroom
      isplitl [HO]; · iexact HO
      isplitl [Hts] <;> iassumption
    iintro ⟨Hc, HO⟩
    iapply (wp_relays c rest l (fun j hj => hl j (List.mem_cons_of_mem _ hj)) (List.pairwise_cons.mp hp).2 _) $$ [HO HL]
    · isplitr; · iexact HR
      isplitr; · iexact Hlev
      isplitl [HO]; · iexact HO
      iexact HL
    iintro ⟨HO, HL⟩
    iapply Hk
    isplitl [HO]; · iexact HO
    isplitl [Hat Hc]; · isplitl [Hat] <;> iassumption
    iexact HL

/-- Waits in a row, by a device that owes nothing any more. -/
theorem wp_waits (c : Dev nD) (sem : Hop → DmaSem sig) (ix : Hop → ℕ) (h2 : ∀ i, 2 ≤ (sem i).val) (ha : ∀ i, amt (sem i) = blkN) (hix : ∀ i, ix i < NL)
    {Q : PUnit → sProp 𝕄} (rest : List (Prog (Op F) PUnit)) :
    ∀ (l : List Hop), (∀ i ∈ l, used (sem i) = true) → ∀ W : Waits sig ℕ,
    iprop(records m ∗ levAts L lv ∗ owes (c : Thread nD τ) 0 W
        ∗ bigSepL l (fun i => cred (tallyAt (dmaC c (sem i)) (ix i) blkN)) ∗ bigSepL l (fun i => atPos ER (dmaC c (sem i)) 0 ∅ 0))
      ⊢ iprop((((∃ W, owes (c : Thread nD τ) 0 W) ∗ bigSepL l (fun i => atPos ER (dmaC c (sem i)) 1 ∅ 0) ∗ bigSepL l (fun i => dmaPay m c (sem i)))
            -∗ wp frame (wpE (defs₀ (F := F)) 𝒱₀ (c : Thread nD τ) none) Set.univ (Pipeline.chain rest) Q)
          -∗ wp frame (wpE (defs₀ (F := F)) 𝒱₀ (c : Thread nD τ) none) Set.univ
              (Pipeline.chain ((l.map fun i => Prog.lift (.waitDma2 (sem i) (hopM c i) (hopM c i) (View.wordExact_bits rfl) (View.wordExact_bits rfl))) ++ rest)) Q)
  | [], _, W => by
    iintro ⟨-, -, HO, HL, HL'⟩ Hk
    iapply Hk
    isplitl [HO]; · iexists W; iexact HO
    isplitl [HL]; · iexact HL
    iexact HL'
  | i :: l, hl, W => by
    show _ ⊢ iprop(_ -∗ wp frame _ Set.univ (Prog.lift _ >>= fun _ => Pipeline.chain _) Q)
    simp only [Prog.lift, Prog.bind_op, Prog.bind_ret]
    rw [bigSepL_cons', bigSepL_cons', bigSepL_cons', bigSepL_cons']
    iintro ⟨#HR, #Hlev, HO, ⟨Hc, Hcs⟩, Hat, Hats⟩ Hk
    iapply (wp_wait_dma m c (sem i) (hl i List.mem_cons_self) (h2 i) ((hopM_credit c _).trans (ha i).symm)
      (wpE_waitDma2_eq 𝒱₀ (c : Thread nD τ) none Set.univ) (ix i) (hix i) [] (fun e he => by cases he) W) $$ [Hc HO Hat]
    · isplitr; · iexact HR
      isplitr; · iexact Hlev
      isplitl [Hc]; · rw [ha]; iexact Hc
      isplitl [HO]; · iexact HO
      iexact Hat
    iintro ⟨HO, Hat, Hp⟩
    iapply (wp_waits c sem ix h2 ha hix rest l (fun j hj => hl j (List.mem_cons_of_mem _ hj)) _) $$ [HO Hcs Hats]
    · isplitr; · iexact HR
      isplitr; · iexact Hlev
      isplitl [HO]; · iexact HO
      isplitl [Hcs] <;> iassumption
    iintro ⟨HO, HL, HL'⟩
    iapply Hk
    isplitl [HO]; · iexact HO
    isplitl [Hat HL]; · isplitl [Hat] <;> iassumption
    isplitl [Hp] <;> iassumption

theorem tail_eq (c : Dev nD) : tail (F := F) c = Pipeline.chain ((relays.flatMap fun i => [waitRcv c (before i), sendHop c i (toE i.1 c)])
    ++ ((lasts.map (waitRcv c)) ++ ((sends.map (waitSnd c)) ++ []))) := by
  unfold tail
  rw [relayDevs_eq, List.append_nil, List.append_assoc]
  congr 2

theorem lasts_hops : ∀ i ∈ lasts, i ∈ hops := by decide +kernel
theorem sends_hops : ∀ i ∈ sends, i ∈ hops := fun i hi => sends_perm.subset hi

/-- From the later hops to the end of the body. -/
theorem wp_tail (c : Dev nD) (W : Waits sig ℕ) {Q : PUnit → sProp 𝕄} :
    iprop(records m ∗ levAts L lv ∗ owes (c : Thread nD τ) (owing c (relays.map dueHop)) W ∗ bigSepL relays (relayPre c)
        ∗ bigSepL lasts (fun i => cred (tallyAt (dmaC c (rcvS i)) (3 + i.2.1.val) blkN)) ∗ bigSepL lasts (fun i => atPos ER (dmaC c (rcvS i)) 0 ∅ 0)
        ∗ bigSepL firsts (fun i => cred (tallyAt (dmaC c (sndS i)) 0 blkN)) ∗ bigSepL hops (fun i => atPos ER (dmaC c (sndS i)) 0 ∅ 0))
      ⊢ iprop((((∃ W, owes (c : Thread nD τ) 0 W) ∗ bigSepL hops (fun i => atPos ER (dmaC c (rcvS i)) 1 ∅ 0)
              ∗ bigSepL hops (fun i => atPos ER (dmaC c (sndS i)) 1 ∅ 0)
              ∗ bigSepL lasts (fun i => dmaPay m c (rcvS i)) ∗ bigSepL hops (fun i => dmaPay m c (sndS i)))
            -∗ wp frame (wpE (defs₀ (F := F)) 𝒱₀ (c : Thread nD τ) none) Set.univ (.ret ⟨⟩) Q)
          -∗ wp frame (wpE (defs₀ (F := F)) 𝒱₀ (c : Thread nD τ) none) Set.univ (tail c) Q) := by
  rw [tail_eq]
  iintro ⟨#HR, #Hlev, HO, HL, Hlc, Hla, Hfc, Hsa⟩ Hk
  iapply (wp_relays m c _ relays (fun _ h => h) relays_sorted W) $$ [HO HL]
  · isplitr; · iexact HR
    isplitr; · iexact Hlev
    isplitl [HO] <;> iassumption
  iintro ⟨⟨%W1, HO⟩, HL⟩
  unfold relayPost
  ihave HL := (Entails.of_eq (bigSepL_sep _ _ _)) $$ HL
  icases HL with ⟨Hra, Hrc⟩
  iapply (wp_waits m c rcvS (fun i => 3 + i.2.1.val) two_le_rcv amt_rcv (fun i => by have := i.2.1.isLt; show _ < 11; omega) _ lasts
    (fun i hi => used_rcv i (lasts_hops i hi)) W1) $$ [HO Hlc Hla]
  · isplitr; · iexact HR
    isplitr; · iexact Hlev
    isplitl [HO]; · iexact HO
    isplitl [Hlc] <;> iassumption
  iintro ⟨⟨%W2, HO⟩, Hla, Hlp⟩
  iapply (wp_waits m c sndS (fun i => 0) two_le_snd amt_snd (fun i => by decide) [] sends
    (fun i hi => used_snd i (sends_hops i hi)) W2) $$ [HO Hfc Hrc Hsa]
  · isplitr; · iexact HR
    isplitr; · iexact Hlev
    isplitl [HO]; · iexact HO
    isplitl [Hfc Hrc]
    · rw [bigSepL_of_perm sends_perm, hops, bigSepL_append]
      isplitl [Hfc] <;> iassumption
    · rw [bigSepL_of_perm sends_perm]; iexact Hsa
  iintro ⟨HO, Hsa, Hsp⟩
  ihave Hsa := (Entails.of_eq (bigSepL_of_perm sends_perm _)) $$ Hsa
  ihave Hsp := (Entails.of_eq (bigSepL_of_perm sends_perm _)) $$ Hsp
  iapply Hk
  isplitl [HO]; · iexact HO
  isplitl [Hra Hla]
  · rw [bigSepL_of_perm hops_perm, bigSepL_append, bigSepL_map]
    isplitl [Hra] <;> iassumption
  isplitl [Hsa]; · iexact Hsa
  isplitl [Hlp] <;> iassumption

end Cert.KernelIdeal.Ring
-- ==== Proof.Buffers.lean ====
/-
# `Buffers`: whole buffers and their blocks

The staged result is its 32 groups of columns, the received product its two halves; the buffer of partial products
lends two of its blocks to the peer while the device works on the rest.
-/
module

public import proofs.«01_k».proof.Proof.Steps
public import Idealize.ShloMosaic.Lib.Ring

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The result: 32 groups -/

theorem groups_univ (c : Dev nD) : (Finset.univ : Finset (Fin 32)) = (groups c).toFinset :=
  (Finset.eq_univ_iff_forall.mpr fun q => List.mem_toFinset.mpr (groups_all c q)).symm

theorem out_blocks (c : Dev nD) (f : Buf (Elt F) ((c : Thread nD τ).loc cc0_stg1_0)) :
    (((c : Thread nD τ).loc cc0_stg1_0) ↦{fullShare} f : sProp 𝕄)
      = bigSepL (groups c) fun q => ((grp q).view.loc (c : Thread nD τ) ↦[(grp q).view.set]{fullShare} f) := by
  rw [← bigSep_univ_eq_bigSepL (groups c) (groups_univ c) (groups_nodup c)]
  exact Idealize.ShloMosaic.Ring.pointsTo_blocks (ℓ := (c : Thread nD τ).loc cc0_stg1_0) (fun q : Fin 32 => (grp q).view.set) grp_disjoint grp_cover f

/-- The staged result, at any contents, is the room of the two own groups and of every hop that lands here. -/
theorem out_split (c : Dev nD) (f : Buf (Elt F) ((c : Thread nD τ).loc cc0_stg1_0)) :
    (((c : Thread nD τ).loc cc0_stg1_0) ↦{fullShare} f : sProp 𝕄)
      ⊢ iprop((∃ X, owns (c : Thread nD τ) (grp (ownq c 0)) fullShare X) ∗ (∃ X, owns (c : Thread nD τ) (grp (ownq c 1)) fullShare X)
          ∗ bigSepL hops (room c)) := by
  rw [out_blocks]
  have h : ∀ q, ((grp q).view.loc (c : Thread nD τ) ↦[(grp q).view.set]{fullShare} f : sProp 𝕄) ⊢ iprop(∃ X, owns (c : Thread nD τ) (grp q) fullShare X) := fun q => by
    iintro H
    iexists _
    iapply (owns_intro (c : Thread nD τ) (grp q) fullShare f)
    iexact H
  refine (bigSepL_mono fun q _ => h q).trans (Entails.of_eq ?_)
  show bigSepL (ownq c 0 :: ownq c 1 :: hops.map (landq c)) _ = _
  rw [bigSepL_cons', bigSepL_cons', bigSepL_map]
  rfl

theorem owns_outB (c : Dev nD) (q : Fin 32) : owns (c : Thread nD τ) (grp q) fullShare (grpVal m (plane c) q)
    ⊢ ((grp q).view.loc (c : Thread nD τ) ↦[(grp q).view.set]{fullShare} outB m (plane c) : sProp 𝕄) := by
  unfold owns
  iintro ⟨%f, %hf, H⟩
  have h : ∀ i ∈ (grp q).view.set, f i = outB m (plane c) i := fun i hi => by
    obtain ⟨j, -, rfl⟩ := Finset.mem_map.mp hi
    exact View.eq_of_read_eq (congrFun (hf.trans (read_outB m (plane c) q).symm) j)
  iapply (Entails.of_eq (pointsTo_congr h))
  iexact H

/-- All groups at their values are the result at its value. -/
theorem out_join (c : Dev nD) : bigSepL (groups c) (fun q => owns (c : Thread nD τ) (grp q) fullShare (grpVal m (plane c) q))
    ⊢ (((c : Thread nD τ).loc cc0_stg1_0) ↦{fullShare} (outB m (plane c) : Buf (Elt F) ((c : Thread nD τ).loc cc0_stg1_0)) : sProp 𝕄) := by
  rw [out_blocks]
  exact bigSepL_mono fun q _ => owns_outB m c q

/-! ## The received product: two halves -/

theorem recv_split (c : Dev nD) (f : Buf (Elt F) ((c : Thread nD τ).loc cc0_scratch2)) :
    (((c : Thread nD τ).loc cc0_scratch2) ↦{fullShare} f : sProp 𝕄) ⊢ bigSepL [(0 : Fin 2), 1] (roomX c) := by
  rw [Idealize.ShloMosaic.Ring.pointsTo_blocks (ℓ := (c : Thread nD τ).loc cc0_scratch2) (fun s : Fin 2 => (xrM s).view.set) halves_disjoint halves_cover f,
    bigSep_univ_eq_bigSepL [(0 : Fin 2), 1] (by decide) (by decide)]
  refine bigSepL_mono fun s _ => ?_
  unfold roomX
  iintro H
  iexists _
  iapply (owns_intro (c : Thread nD τ) (xrM s) fullShare f)
  iexact H

theorem recv_join (c : Dev nD) (X Y : Vec F S512x128 .f32) :
    iprop(owns (c : Thread nD τ) (xrM 0) fullShare X ∗ owns (c : Thread nD τ) (xrM 1) fullShare Y)
      ⊢ (iprop(∃ f : Buf (Elt F) ((c : Thread nD τ).loc cc0_scratch2), ((c : Thread nD τ).loc cc0_scratch2) ↦{fullShare} f) : sProp 𝕄) := by
  unfold owns
  iintro ⟨⟨%f, -, H⟩, ⟨%g, -, H'⟩⟩
  iapply (Idealize.ShloMosaic.Ring.pointsTo_blocks_join_exists (ℓ := (c : Thread nD τ).loc cc0_scratch2) (fun s : Fin 2 => (xrM s).view.set) halves_disjoint halves_cover f)
  rw [bigSep_univ_eq_bigSepL [(0 : Fin 2), 1] (by decide) (by decide), bigSepL_cons', bigSepL_singleton]
  isplitl [H]
  · iexists f; iexact H
  · iexists g; iexact H'

/-! ## The buffer of partial products -/

/-- The elements the device keeps while the two halves for the peer are on their way. -/
abbrev keep (c : Dev nD) : Finset S1024x256.Idx := ((Finset.univ : Finset S1024x256.Idx) \ (xsM c 0).view.set) \ (xsM c 1).view.set

theorem xs_disjoint (c : Dev nD) : Disjoint (xsM c 1).view.set (xsM c 0).view.set :=
  rows_disjoint (p := xoff_inb c 1) (p' := xoff_inb c 0) (1 : Fin 2) (Or.inr (by
    rw [xoff_eq, xoff_eq]; show 128 * 0 + 128 ≤ 128 * 1; omega))

theorem xs_sub (c : Dev nD) : (xsM c 1).view.set ⊆ (Finset.univ : Finset S1024x256.Idx) \ (xsM c 0).view.set :=
  Finset.subset_sdiff.mpr ⟨Finset.subset_univ _, xs_disjoint c⟩

theorem plane_rows : ∀ c : Dev nD, 512 * (plane c).val + 512 ≤ 512 * (plane c + 1).val ∨ 512 * (plane c + 1).val + 512 ≤ 512 * (plane c).val := by
  decide +kernel

/-- What lies in the rows of the device's own plane is kept. -/
theorem keep_own (c : Dev nD) {off size : Fin 2 → ℕ} (h0 : off 0 = 512 * (plane c).val) (hs : size 0 = 512)
    (p : ∀ b, off b + size b ≤ S1024x256.size b) :
    (pM.view.slice (Rect.unit (s := S1024x256) off size p)).set ⊆ keep c := by
  have hd : ∀ s, Disjoint (pM.view.slice (Rect.unit (s := S1024x256) off size p)).set (xsM c s).view.set := fun s =>
    rows_disjoint (p' := xoff_inb c s) (0 : Fin 2) (by
      rw [xoff_eq, h0, hs]
      exact plane_rows c)
  exact Finset.subset_sdiff.mpr ⟨Finset.subset_sdiff.mpr ⟨Finset.subset_univ _, hd 0⟩, hd 1⟩

/-- Once the rows for the peer are formed, their two halves and what is kept. -/
theorem part_split (c : Dev nD) (f : Buf (Elt F) ((c : Thread nD τ).loc cc0_scratch1)) {off : Fin 2 → ℕ} (h : off = ![512 * (plane c + 1).val, 0])
    (p : ∀ b, off b + S512x256.size b ≤ S1024x256.size b) (w : Vec F S512x256 .f32) :
    (((c : Thread nD τ).loc cc0_scratch1) ↦{fullShare} ((pM.access (Rect.unit (s := S1024x256) off S512x256.size p)).write (Elt F) f w Finset.univ) : sProp 𝕄)
      ⊢ iprop(owns (c : Thread nD τ) (xsM c 0) fullShare (half 0 w) ∗ owns (c : Thread nD τ) (xsM c 1) fullShare (half 1 w)
          ∗ ∃ g : Buf (Elt F) ((c : Thread nD τ).loc cc0_scratch1), ((c : Thread nD τ).loc cc0_scratch1) ↦[keep c]{fullShare} g) := by
  have hr : ∀ s, (xsM c s).view.read (Elt F) ((pM.access (Rect.unit (s := S1024x256) off S512x256.size p)).write (Elt F) f w Finset.univ) = half s w :=
    fun s => read_half _ s h (xoff_eq c s) p (xoff_inb c s) f w
  generalize (pM.access (Rect.unit (s := S1024x256) off S512x256.size p)).write (Elt F) f w Finset.univ = g at hr ⊢
  iintro H
  ihave H1 := (pointsTo_split_subset (ℓ := (c : Thread nD τ).loc cc0_scratch1) (S := Finset.univ) (I := (xsM c 0).view.set) (Finset.subset_univ _)).1 $$ H
  icases H1 with ⟨Ha, H⟩
  ihave H1 := (pointsTo_split_subset (ℓ := (c : Thread nD τ).loc cc0_scratch1) (I := (xsM c 1).view.set) (xs_sub c)).1 $$ H
  icases H1 with ⟨Hb, H⟩
  isplitl [Ha]
  · iapply (owns_of_read (c : Thread nD τ) (xsM c 0) fullShare (hr 0)); iexact Ha
  isplitl [Hb]
  · iapply (owns_of_read (c : Thread nD τ) (xsM c 1) fullShare (hr 1)); iexact Hb
  iexists g; iexact H

theorem part_join (c : Dev nD) (X Y : Vec F S512x128 .f32) (g : Buf (Elt F) ((c : Thread nD τ).loc cc0_scratch1)) :
    iprop(owns (c : Thread nD τ) (xsM c 0) fullShare X ∗ owns (c : Thread nD τ) (xsM c 1) fullShare Y
        ∗ ((c : Thread nD τ).loc cc0_scratch1) ↦[keep c]{fullShare} g)
      ⊢ (iprop(∃ f : Buf (Elt F) ((c : Thread nD τ).loc cc0_scratch1), ((c : Thread nD τ).loc cc0_scratch1) ↦{fullShare} f) : sProp 𝕄) := by
  unfold owns
  iintro ⟨⟨%f0, -, H0⟩, ⟨%f1, -, H1⟩, H⟩
  ihave H := (pointsTo_join_subset (ℓ := (c : Thread nD τ).loc cc0_scratch1) (I := (xsM c 1).view.set) (g := f1) (f := g) (xs_sub c)) $$ [H1 H]
  · isplitl [H1] <;> iassumption
  ihave H := (pointsTo_join_subset (ℓ := (c : Thread nD τ).loc cc0_scratch1) (S := Finset.univ) (I := (xsM c 0).view.set) (g := f0) (Finset.subset_univ _)) $$ [H0 H]
  · isplitl [H0] <;> iassumption
  iexists _; iexact H

end Cert.KernelIdeal.Ring
-- ==== Proof.Pieces.lean ====
/-
# `Pieces`: the parts of the body

Signalling a neighbour, forming a product, opening a half: each with what it takes and what it leaves, for any device.
-/
module

public import proofs.«01_k».proof.Proof.Buffers

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- Running a program on device `c`. -/
abbrev run (c : Dev nD) {α : Type} (p : Prog (Op F) α) (Q : α → sProp 𝕄) : sProp 𝕄 :=
  wp frame (wpE (defs₀ (F := F)) 𝒱₀ (c : Thread nD τ) none) Set.univ p Q

/-! ## The barrier -/

def dueBar (E : Equiv.Perm (Dev nD)) : Due := (E, .reg barS, 1, 1)

theorem wp_signal_bar (c : Dev nD) (E : Equiv.Perm (Dev nD)) (d : Fin 3) (e : Dev nD) (he : e = E c) (l : List Due) (W : Waits sig ℕ)
    {α : Type} {Q : α → sProp 𝕄} {k : PUnit → Prog (Op F) α} :
    iprop(records m ∗ owes (c : Thread nD τ) (owing c (dueBar E :: l)) W ∗ dutyTok ER (barC (E c)) 0 d ∗ barPay (E c) d)
      ⊢ iprop((owes (c : Thread nD τ) (owing c l) W -∗ run c (k ⟨⟩) Q) -∗ run c (semSignalWord e barS 1#32 >>= k) Q) := by
  subst he
  unfold semSignalWord
  simp only [Prog.bind_op, Prog.bind_ret]
  iintro ⟨#HR, HO, Ht, Hp⟩ Hk
  ihave Hkn := (records_bar m (E c)) $$ HR
  unfold knows
  icases Hkn with ⟨%κ, #HI, #Hr⟩
  iapply (Rounds.wp_signal 𝒱₀ ER (rounds m) (c : Thread nD τ) none (dst := ((E c : Dev nD) : Thread nD τ)) (κ := κ)
      (d := d) (r := 0) (by rw [duties_bar]; exact Finset.mem_univ _) (k' := 1) (amount_bar m (E c) d) 1 (O₀ := owing c (dueBar E :: l)) (owing c l) (owing_cons c (dueBar E) l)) $$ [HO Ht Hp]
  · isplitr; · iexact HI
    isplitl [HO]; · iexact HO
    isplitl [Ht]; · iexact Ht
    isplitl [Hp]; · rw [payload_bar]; iexact Hp
    iexact Hr
  iexact Hk

theorem wp_wait_bar (c : Dev nD) (l : List Due) (hl : ∀ e ∈ l, 1 < e.2.2.1 ∧ e.2.2.1 < NL) (W : Waits sig ℕ)
    {α : Type} {Q : α → sProp 𝕄} {k : PUnit → Prog (Op F) α} :
    iprop(records m ∗ levAts L lv ∗ cred (tallyAt (barC c) 1 3) ∗ owes (c : Thread nD τ) (owing c l) W ∗ atPos ER (barC c) 0 ∅ 0)
      ⊢ iprop(((owes (c : Thread nD τ) (owing c l) (insert (SemLoc.reg barS, 1) W) ∗ atPos ER (barC c) 1 ∅ 0 ∗ barPay c 0 ∗ barPay c 1 ∗ barPay c 2)
            -∗ run c (k ⟨⟩) Q) -∗ run c (semWaitWord barS 3#32 >>= k) Q) := by
  unfold semWaitWord
  simp only [Prog.bind_op, Prog.bind_ret]
  iintro ⟨#HR, #Hlev, Hc, HO, Hat⟩ Hk
  ihave Hkn := (records_bar m c) $$ HR
  unfold knows
  icases Hkn with ⟨%κ, #HI, #Hr⟩
  iapply (Rounds.wp_wait_rest_token 𝒱₀ ER (rounds m) (c : Thread nD τ) none (κ := κ)
      (wpE_semWait_eq 𝒱₀ (c : Thread nD τ) none Set.univ) (Set.mem_univ _) 1 (O := owing c l) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) 1 (by decide) l hl); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## Products -/

theorem hz : (![0, 0] : Fin 2 → Nat) = fun _ => 0 := funext fun a => by fin_cases a <;> rfl

theorem wp_formProd (c : Dev nD) (o : Fin 2) {ox op : Fin 2 → ℕ} (hox : ox = ![0, 512 * o.val])
    (hx : ∀ a, ox a + S1024x512.size a ≤ S1024x1024.size a) (hp : ∀ a, op a + S512x256.size a ≤ S1024x256.size a)
    (S : Finset S1024x256.Idx) (f : Buf (Elt F) ((c : Thread nD τ).loc cc0_scratch1))
    (hS : (pM.view.slice (Rect.unit (s := S1024x256) op S512x256.size hp)).set ⊆ S)
    {α : Type} {Q : α → sProp 𝕄} {k : PUnit → Prog (Op F) α} :
    iprop((((c : Thread nD τ).loc cc0_stg0_0) ↦{fullShare} (xB m c : Buf (Elt F) ((c : Thread nD τ).loc cc0_stg0_0)))
        ∗ owns (c : Thread nD τ) dM fullShare (dyB m c) ∗ ((c : Thread nD τ).loc cc0_scratch1) ↦[S]{fullShare} f)
      ⊢ iprop((((((c : Thread nD τ).loc cc0_stg0_0) ↦{fullShare} (xB m c : Buf (Elt F) ((c : Thread nD τ).loc cc0_stg0_0)))
          ∗ owns (c : Thread nD τ) dM fullShare (dyB m c)
          ∗ ((c : Thread nD τ).loc cc0_scratch1) ↦[S]{fullShare}
              ((pM.access (Rect.unit (s := S1024x256) op S512x256.size hp)).write (Elt F) f (part m c o) Finset.univ))
            -∗ run c (k ⟨⟩) Q) -∗ run c (formProd ox hx op hp >>= k) Q) := by
  have hd : owns (c : Thread nD τ) dM fullShare (dyB m c)
      = (((c : Thread nD τ).loc cc0_scratch0) ↦{fullShare} (dyB m c : Buf (Elt F) ((c : Thread nD τ).loc cc0_scratch0)) : sProp 𝕄) :=
    owns_whole (c : Thread nD τ) cc0_scratch0 fullShare (dyB m c)
  have hread : dM.view.readAt (Elt F) (Rect.unit (s := S1024x256) ![0, 0] S1024x256.size inb_S1024x256_S1024x256_0_0).toLoadRect (dyB m c) = dyB m c :=
    Memref.readAt_unit_zero (Elt F) cc0_scratch0 hz _ _
  rw [hd]
  unfold formProd
  simp only [Prog.lift, Prog.bind_op, Prog.bind_ret]
  iintro ⟨Hx, Hd, Hp⟩ Hk
  iapply (wp_load 𝒱₀ (c : Thread nD τ) none Set.univ (m := xM) (S := Finset.univ) (f := (xB m c : Buf (Elt F) ((c : Thread nD τ).loc cc0_stg0_0))) (Finset.subset_univ _)) $$ Hx; iintro Hx
  iapply (wp_load 𝒱₀ (c : Thread nD τ) none Set.univ (m := dM) (S := Finset.univ) (f := (dyB m c : Buf (Elt F) ((c : Thread nD τ).loc cc0_scratch0))) (Finset.subset_univ _)) $$ Hd; iintro Hd
  iapply (wp_load_rect 𝒱₀ (c : Thread nD τ) none Set.univ (m := pM) (r := Rect.unit (s := S1024x256) op S512x256.size hp) (S := S) (f := f) hS) $$ Hp; iintro Hp
  iapply (wp_store 𝒱₀ (c : Thread nD τ) none Set.univ (m := pM) (r := Rect.unit (s := S1024x256) op S512x256.size hp) (S := S) (f := f) (Mk := Finset.univ) hS) $$ Hp; iintro Hp
  rw [hread, read_cols m c o hox hx]
  iapply Hk
  isplitl [Hx]; · iexact Hx
  isplitl [Hd]; · iexact Hd
  iexact Hp

/-! ## Halves -/

theorem wp_sendX (c : Dev nD) (s : Fin 2) (e : Dev nD) (he : e = peer c) (l : List Due) (W : Waits sig ℕ)
    {α : Type} {Q : α → sProp 𝕄} {k : PUnit → Prog (Op F) α} :
    iprop(records m ∗ owns (c : Thread nD τ) (xsM c s) fullShare (half s (part m c (plane c + 1))) ∗ roomX (peer c) s
        ∗ owes (c : Thread nD τ) (owing c (dueX s :: l)) W ∗ dutyTok ER (dmaC c (xsS s)) 0 0 ∗ dutyTok ER (dmaC (peer c) (xrS s)) 0 0)
      ⊢ iprop(((cred (tallyAt (dmaC c (xsS s)) 0 blkN) ∗ owes (c : Thread nD τ) (owing c l) W) -∗ run c (k ⟨⟩) Q)
          -∗ run c (sendX c s e >>= k) Q) := by
  simp only [Prog.lift, Prog.bind_op, Prog.bind_ret]
  exact wp_send_block m c (peer c) (xsS s) (xrS s) (used_xs s) (used_xr s) (by show 2 ≤ 3 + s.val; omega) (by show 2 ≤ 5 + s.val; omega)
    (xsM c s) (xrM s) fullShare (half s (part m c (plane c + 1))) (xrM_credit s) (amt_xs s) (amt_xr s)
    (by rw [pay_xs]; iintro H; iexists _; iexact H) (by rw [pay_xr, peer_peer, plane_peer]) e he 2 (owing c l) (owing_cons c _ _) W

theorem wp_addHalf (c : Dev nD) (s : Fin 2) (g : Buf (Elt F) ((c : Thread nD τ).loc cc0_scratch1))
    (hg : (pM.access (Rect.unit (s := S1024x256) (koff c s) S512x128.size (koff_inb c s))).read (Elt F) g = half s (part m c (plane c)))
    {α : Type} {Q : α → sProp 𝕄} {k : PUnit → Prog (Op F) α} :
    iprop(owns (c : Thread nD τ) (xrM s) fullShare (half s (part m (peer c) (plane c))) ∗ (∃ X, owns (c : Thread nD τ) (grp (ownq c s)) fullShare X)
        ∗ ((c : Thread nD τ).loc cc0_scratch1) ↦[keep c]{fullShare} g)
      ⊢ iprop(((owns (c : Thread nD τ) (xrM s) fullShare (half s (part m (peer c) (plane c)))
          ∗ owns (c : Thread nD τ) (grp (ownq c s)) fullShare (grpVal m (plane c) (ownq c s))
          ∗ ((c : Thread nD τ).loc cc0_scratch1) ↦[keep c]{fullShare} g) -∗ run c (k ⟨⟩) Q) -∗ run c (addHalf c s >>= k) Q) := by
  have hO : oM.slice (Rect.unit (s := S512x4096) (k0_off9 c (BitVec.ofNat 32 (128 * s.val))) S512x128.size (k0_off9_inb c s)) (fun _ => rfl) = grp (ownq c s) :=
    slice_congr oM (off9_eq c s) _ _
  have hkeep := keep_own c (off := koff c s) (size := S512x128.size) (by rw [koff_eq]; rfl) rfl (koff_inb c s)
  rw [← hO, grpVal_own]
  unfold addHalf chunk
  simp only [Prog.lift, Prog.bind_op, Prog.bind_ret]
  iintro ⟨Hr, ⟨%X, Ho⟩, Hp⟩ Hk
  unfold owns
  icases Hr with ⟨%fr, %hfr, Hr⟩
  icases Ho with ⟨%fo, %hfo, Ho⟩
  iapply (wp_load_rect 𝒱₀ (c : Thread nD τ) none Set.univ (m := pM) (r := Rect.unit (s := S1024x256) (koff c s) S512x128.size (koff_inb c s)) (S := keep c) (f := g) hkeep) $$ Hp; iintro Hp
  iapply (wp_load_rect 𝒱₀ (c : Thread nD τ) none Set.univ (m := rM) (r := Rect.unit (s := S512x256) ![0, 128 * s.val] S512x128.size (half_inb s)) (f := fr) (Finset.Subset.refl _)) $$ Hr; iintro Hr
  iapply (wp_load_rect 𝒱₀ (c : Thread nD τ) none Set.univ (m := oM) (r := Rect.unit (s := S512x4096) (k0_off9 c (BitVec.ofNat 32 (128 * s.val))) S512x128.size (k0_off9_inb c s)) (f := fo) (Finset.Subset.refl _)) $$ Ho; iintro Ho
  iapply (wp_store 𝒱₀ (c : Thread nD τ) none Set.univ (m := oM) (r := Rect.unit (s := S512x4096) (k0_off9 c (BitVec.ofNat 32 (128 * s.val))) S512x128.size (k0_off9_inb c s)) (f := fo) (Mk := Finset.univ)
    (S := (oM.access (Rect.unit (s := S512x4096) (k0_off9 c (BitVec.ofNat 32 (128 * s.val))) S512x128.size (k0_off9_inb c s))).set) (Finset.Subset.refl _)) $$ Ho; iintro Ho
  iapply Hk
  isplitl [Hr]
  · iexists fr; isplitr; · ipureintro; exact hfr
    iexact Hr
  isplitl [Ho]
  · iexists _; isplitr
    rotate_left
    · iexact Ho
    · ipureintro
      exact (View.read_write_univ fo _).trans (congrArg₂ addf hg hfr)
  iexact Hp

/-- What opening the half `s` takes of the device's own. -/
def openPre (c : Dev nD) (s : Fin 2) : sProp 𝕄 :=
  iprop(cred (tallyAt (dmaC c (xsS s)) 0 blkN) ∗ atPos ER (dmaC c (xsS s)) 0 ∅ 0
    ∗ cred (tallyAt (dmaC c (xrS s)) 2 blkN) ∗ atPos ER (dmaC c (xrS s)) 0 ∅ 0
    ∗ (∃ X, owns (c : Thread nD τ) (grp (ownq c s)) fullShare X))
/-- What a first hop takes. -/
def firstPre (c : Dev nD) (i : Hop) : sProp 𝕄 :=
  iprop(dutyTok ER (dmaC c (sndS i)) 0 0 ∗ dutyTok ER (dmaC (toE i.1 c) (rcvS i)) 0 0 ∗ room (toE i.1 c) i)
def openPost (c : Dev nD) (s : Fin 2) : sProp 𝕄 :=
  iprop(atPos ER (dmaC c (xsS s)) 1 ∅ 0 ∗ (∃ X, owns (c : Thread nD τ) (xsM c s) fullShare X)
    ∗ atPos ER (dmaC c (xrS s)) 1 ∅ 0 ∗ owns (c : Thread nD τ) (xrM s) fullShare (half s (part m (peer c) (plane c)))
    ∗ cred (tallyAt (dmaC c (sndS (false, 0, s))) 0 blkN) ∗ cred (tallyAt (dmaC c (sndS (true, 0, s))) 0 blkN))

theorem first_hops : ∀ d s, ((d, 0, s) : Hop) ∈ hops := by decide +kernel

theorem lv_hops (l : List Hop) : ∀ e ∈ l.map dueHop, 2 < e.2.2.1 ∧ e.2.2.1 < NL := fun e he => by
  obtain ⟨j, -, rfl⟩ := List.mem_map.mp he
  have := j.2.1.isLt
  constructor
  · show 2 < 3 + j.2.1.val; omega
  · show 3 + j.2.1.val < 11; omega

theorem own_halves (c : Dev nD) (s : Fin 2) : (owns (c : Thread nD τ) (grp (ownq c s)) fullShare (grpVal m (plane c) (ownq c s)) : sProp 𝕄)
    ⊣⊢ iprop(owns (c : Thread nD τ) (grp (srcq c (false, 0, s))) (shr (false, 0, s)) (grpVal m (plane c) (srcq c (false, 0, s)))
      ∗ owns (c : Thread nD τ) (grp (srcq c (true, 0, s))) (shr (true, 0, s)) (grpVal m (plane c) (srcq c (true, 0, s)))) := by
  rw [srcq_zero, srcq_zero]
  exact owns_halves (c : Thread nD τ) (grp (ownq c s)) fullShare _

theorem wp_openHalf (c : Dev nD) (s : Fin 2) (e e' : Dev nD) (he : e = nxt c) (he' : e' = prv c) (l : List Hop) (W : Waits sig ℕ)
    (g : Buf (Elt F) ((c : Thread nD τ).loc cc0_scratch1))
    (hg : (pM.access (Rect.unit (s := S1024x256) (koff c s) S512x128.size (koff_inb c s))).read (Elt F) g = half s (part m c (plane c)))
    {α : Type} {Q : α → sProp 𝕄} {k : PUnit → Prog (Op F) α} :
    iprop(records m ∗ levAts L lv ∗ owes (c : Thread nD τ) (owing c (((false, 0, s) :: (true, 0, s) :: l).map dueHop)) W
        ∗ openPre c s ∗ (((c : Thread nD τ).loc cc0_scratch1) ↦[keep c]{fullShare} g) ∗ firstPre c (false, 0, s) ∗ firstPre c (true, 0, s))
      ⊢ iprop((((∃ W, owes (c : Thread nD τ) (owing c (l.map dueHop)) W) ∗ openPost m c s ∗ (((c : Thread nD τ).loc cc0_scratch1) ↦[keep c]{fullShare} g))
          -∗ run c (k ⟨⟩) Q) -∗ run c (openHalf c s e e' >>= k) Q) := by
  unfold openHalf openPre firstPre openPost
  simp only [Prog.lift, Prog.bind_op, Prog.bind_ret, bind_assoc]
  iintro ⟨#HR, #Hlev, HO, ⟨Hcs, Has, Hcr, Har, Ho⟩, Hp, ⟨Ht1, Ht2, Hroom⟩, ⟨Ht3, Ht4, Hroom'⟩⟩ Hk
  iapply (wp_wait_dma m c (xsS s) (used_xs s) (by show 2 ≤ 3 + s.val; omega) (show (xsM c s).view.dmaCredit = _ from (show _ = blkN from rfl).trans (amt_xs s).symm)
      (wpE_waitDma2_eq 𝒱₀ (c : Thread nD τ) none Set.univ) 0 (by decide) (((false, 0, s) :: (true, 0, s) :: l).map dueHop)
      (fun e he => ⟨by have := (lv_hops _ e he).1; omega, (lv_hops _ e he).2⟩) W) $$ [Hcs HO Has]
  · isplitr; · iexact HR
    isplitr; · iexact Hlev
    isplitl [Hcs]; · rw [amt_xs]; iexact Hcs
    isplitl [HO]; · iexact HO
    iexact Has
  iintro ⟨HO, Has, Hxs⟩
  ihave Hxs := (Entails.of_eq (pay_xs m c s)) $$ Hxs
  iapply (wp_wait_dma m c (xrS s) (used_xr s) (by show 2 ≤ 5 + s.val; omega) (show (xrM s).view.dmaCredit = _ from (xrM_credit s).trans (amt_xr s).symm)
      (wpE_waitDma2_eq 𝒱₀ (c : Thread nD τ) none Set.univ) 2 (by decide) (((false, 0, s) :: (true, 0, s) :: l).map dueHop)
      (fun e he => lv_hops _ e he) _) $$ [Hcr HO Har]
  · isplitr; · iexact HR
    isplitr; · iexact Hlev
    isplitl [Hcr]; · rw [amt_xr]; iexact Hcr
    isplitl [HO]; · iexact HO
    iexact Har
  iintro ⟨HO, Har, Hxr⟩
  ihave Hxr := (Entails.of_eq (pay_xr m c s)) $$ Hxr
  iapply (wp_addHalf m c s g hg) $$ [Hxr Ho Hp]
  · isplitl [Hxr]; · iexact Hxr
    isplitl [Ho]; · iexact Ho
    iexact Hp
  iintro ⟨Hxr, Ho, Hp⟩
  ihave Hoo := (own_halves m c s).1 $$ Ho
  icases Hoo with ⟨Ho, Ho'⟩
  iapply (wp_hop m c (false, 0, s) (first_hops _ _) e he (((true, 0, s) :: l).map dueHop) _) $$ [Ho Hroom HO Ht1 Ht2]
  · isplitr; · iexact HR
    isplitl [Ho]; · iexact Ho
    isplitl [Hroom]; · iexact Hroom
    isplitl [HO]; · iexact HO
    isplitl [Ht1]; · iexact Ht1
    iexact Ht2
  iintro ⟨Hc1, HO⟩
  iapply (wp_hop m c (true, 0, s) (first_hops _ _) e' he' (l.map dueHop) _) $$ [Ho' Hroom' HO Ht3 Ht4]
  · isplitr; · iexact HR
    isplitl [Ho']; · iexact Ho'
    isplitl [Hroom']; · iexact Hroom'
    isplitl [HO]; · iexact HO
    isplitl [Ht3]; · iexact Ht3
    iexact Ht4
  iintro ⟨Hc2, HO⟩
  iapply Hk
  isplitl [HO]; · iexists _; iexact HO
  isplitr [Hp]
  · isplitl [Has]; · iexact Has
    isplitl [Hxs]; · iexact Hxs
    isplitl [Har]; · iexact Har
    isplitl [Hxr]; · iexact Hxr
    isplitl [Hc1]; · iexact Hc1
    iexact Hc2
  iexact Hp

/-! ## The copy of `dy` -/

theorem wp_copyDy (c : Dev nD) (f : Buf (Elt F) ((c : Thread nD τ).loc cc0_scratch0))
    {hsrc : (dySrc c).view.WordExact} {hdst : dM.view.WordExact} {hsem : DmaTarget.Typed (nD := nD) (τ := τ) (p := .tc) .hbm (.dma dyS) (.here dM)}
    {α : Type} {Q : α → sProp 𝕄} {k : PUnit → Prog (Op F) α} :
    iprop(records m ∗ ((dySrc c).view.loc (c : Thread nD τ) ↦[(dySrc c).view.set]{fullShare} m ((c : Thread nD τ).loc main_arg1))
        ∗ (((c : Thread nD τ).loc cc0_scratch0) ↦{fullShare} f) ∗ dutyTok ER (dmaC c dyS) 0 0)
      ⊢ iprop((cred (tallyAt (dmaC c dyS) 0 dyN) -∗ run c (k ⟨⟩) Q)
          -∗ run c (.op (.enqueueDma (dySrc c) (.here dM) (.dma dyS) hsrc hdst hsem) k) Q) := by
  have hd : owns (c : Thread nD τ) dM fullShare f = (((c : Thread nD τ).loc cc0_scratch0) ↦{fullShare} f : sProp 𝕄) :=
    owns_whole (c : Thread nD τ) cc0_scratch0 fullShare f
  rw [← hd]
  iintro ⟨#HR, Hs, Hd, Ht⟩ Hk
  ihave Hkn := (records_dma m c dyS (by decide)) $$ HR
  unfold knows owns
  icases Hkn with ⟨%κ, #HI, #Hr⟩
  icases Hd with ⟨%fd, -, Hd⟩
  iapply (Rounds.wp_copy_pointsTo 𝒱₀ ER (rounds m) (c : Thread nD τ) none (src := dySrc c) (dst := dM) (sem := .dma dyS) (κ := κ)
      (r := 0) (d := 0) (fs := m ((c : Thread nD τ).loc main_arg1)) (fd := fd) (q := fullShare)
      (by rw [duties_dma m c (by decide)]; exact Finset.mem_singleton_self _) 0 dyN rfl ((amount_dma m c 0).trans amt_dy)
      (by
        rw [payload_dma, pay_dy]
        iintro ⟨Hd, Hs⟩
        isplitl [Hd]
        · iapply (owns_of_read (c : Thread nD τ) dM fullShare (View.read_write_univ fd _)); iexact Hd
        iexact Hs)) $$ [Hs Hd Ht]
  · isplitr; · iexact HI
    isplitl [Hs]; · iexact Hs
    isplitl [Hd]; · iexact Hd
    isplitl [Ht]; · iexact Ht
    iexact Hr
  iexact Hk

end Cert.KernelIdeal.Ring
-- ==== Proof.Body.lean ====
/-
# `Body`: the whole body

What a device brings to the body is dealt out to its parts, the parts run in program order, and what they leave is
gathered: the result at its value, every semaphore back at zero.
-/
module

public import proofs.«01_k».proof.Proof.Pieces

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What a device brings -/

/-- The duties a device pays: the semaphore's device, the semaphore, the duty. -/
def toks : List (Equiv.Perm (Dev nD) × SemLoc sig × Fin 3) :=
  [(peerE, .reg barS, 0), (nxtE, .reg barS, 2), (nxtE.symm, .reg barS, 1), (Equiv.refl _, .dma dyS, 0), (Equiv.refl _, .dma (xsS 0), 0),
    (Equiv.refl _, .dma (xsS 1), 0), (peerE, .dma (xrS 0), 0), (peerE, .dma (xrS 1), 0)]
    ++ (hops.map (fun i => (Equiv.refl _, .dma (sndS i), 0)) ++ hops.map fun i => (toE i.1, .dma (rcvS i), 0))
def tok (c : Dev nD) (e : Equiv.Perm (Dev nD) × SemLoc sig × Fin 3) : sProp 𝕄 :=
  dutyTok ER (((e.1 c : Dev nD) : Thread nD τ), e.2.1) 0 e.2.2

/-- Its own semaphores: the six of the barrier, the copy and the exchange, the hops' departures and arrivals, the four
    that no hop uses. -/
def idle : List (DmaSem sig) := [sndS (false, 7, 1), rcvS (false, 7, 1), sndS (true, 7, 0), rcvS (true, 7, 0)]
def sems : List (SemLoc sig) :=
  [.reg barS, .dma dyS, .dma (xsS 0), .dma (xsS 1), .dma (xrS 0), .dma (xrS 1)]
    ++ (hops.map (fun i => .dma (sndS i)) ++ (hops.map (fun i => .dma (rcvS i)) ++ idle.map fun k => .dma k))
def pos0 (c : Dev nD) (sm : SemLoc sig) : sProp 𝕄 := atPos ER ((c : Thread nD τ), sm) 0 ∅ 0
theorem pos0_eq (c : Dev nD) (sm : SemLoc sig) : (pos0 c sm : sProp 𝕄) = atPos ER ((c : Thread nD τ), sm) 0 ∅ 0 := rfl

/-- What others owe it. -/
def gets : List (SemLoc sig × ℕ × ℕ) :=
  [(.reg barS, 1, 3), (.dma (xrS 0), 2, blkN), (.dma (xrS 1), 2, blkN)] ++ hops.map fun i => (.dma (rcvS i), 3 + i.2.1.val, blkN)
def get (c : Dev nD) (e : SemLoc sig × ℕ × ℕ) : sProp 𝕄 := cred (tallyAt ((c : Thread nD τ), e.1) e.2.1 e.2.2)

theorem toks_eq (c : Dev nD) : bigSepL toks (tok (F := F) c)
    = iprop(dutyTok ER (barC (peer c)) 0 0 ∗ dutyTok ER (barC (nxt c)) 0 2 ∗ dutyTok ER (barC (prv c)) 0 1
      ∗ dutyTok ER (dmaC c dyS) 0 0 ∗ dutyTok ER (dmaC c (xsS 0)) 0 0 ∗ dutyTok ER (dmaC c (xsS 1)) 0 0
      ∗ dutyTok ER (dmaC (peer c) (xrS 0)) 0 0 ∗ dutyTok ER (dmaC (peer c) (xrS 1)) 0 0
      ∗ bigSepL hops (fun i => dutyTok ER (dmaC c (sndS i)) 0 0) ∗ bigSepL hops (fun i => dutyTok ER (dmaC (toE i.1 c) (rcvS i)) 0 0)) := by
  unfold toks
  simp only [List.cons_append, List.nil_append, bigSepL_cons', bigSepL_append, bigSepL_map]
  rfl

theorem sems_eq (Φ : SemLoc sig → sProp 𝕄) : bigSepL sems Φ
    = iprop(Φ (.reg barS) ∗ Φ (.dma dyS) ∗ Φ (.dma (xsS 0)) ∗ Φ (.dma (xsS 1)) ∗ Φ (.dma (xrS 0)) ∗ Φ (.dma (xrS 1))
      ∗ bigSepL hops (fun i => Φ (.dma (sndS i))) ∗ bigSepL hops (fun i => Φ (.dma (rcvS i))) ∗ bigSepL idle fun k => Φ (.dma k)) := by
  unfold sems
  simp only [List.cons_append, List.nil_append, bigSepL_cons', bigSepL_append, bigSepL_map]

theorem gets_eq (c : Dev nD) : bigSepL gets (get (F := F) c)
    = iprop(cred (tallyAt (barC c) 1 3) ∗ cred (tallyAt (dmaC c (xrS 0)) 2 blkN) ∗ cred (tallyAt (dmaC c (xrS 1)) 2 blkN)
      ∗ bigSepL hops fun i => cred (tallyAt (dmaC c (rcvS i)) (3 + i.2.1.val) blkN)) := by
  unfold gets
  simp only [List.cons_append, List.nil_append, bigSepL_cons', bigSepL_append, bigSepL_map]
  rfl

/-! ## Dealing out and gathering -/

theorem hops_split : hops.Perm (hopsOf false ++ hopsOf true) := by decide +kernel
theorem mem_hopsOf {d : Bool} {i : Hop} (h : i ∈ hopsOf d) : i.1 = d := by
  have := (List.mem_filter.mp h).2; simpa using this

theorem barPay_peer (c : Dev nD) : barPay (F := F) c 0 = iprop(roomX (peer c) 0 ∗ roomX (peer c) 1) := by
  show bigSepL [(0 : Fin 2), 1] _ = _
  rw [bigSepL_cons', bigSepL_singleton]

/-- Its own room, granted to both neighbours. -/
theorem grant (c : Dev nD) : bigSepL hops (room (F := F) c) ⊢ iprop(barPay (nxtE c) 2 ∗ barPay (nxtE.symm c) 1) := by
  rw [bigSepL_of_perm hops_split, bigSepL_append]
  have h1 : bigSepL (hopsOf true) (room (F := F) c) = barPay (nxtE c) 2 := by
    show _ = bigSepL (hopsOf true) fun i => room (prv (nxt c)) i
    rw [prv_nxt]
  have h2 : bigSepL (hopsOf false) (room (F := F) c) = barPay (nxtE.symm c) 1 := by
    show _ = bigSepL (hopsOf false) fun i => room (nxt (prv c)) i
    rw [nxt_prv]
  rw [h1, h2]
  iintro ⟨H1, H2⟩
  isplitl [H2]; · iexact H2
  iexact H1

/-- The room granted by both neighbours. -/
theorem granted (c : Dev nD) : iprop(barPay (F := F) c 1 ∗ barPay c 2) ⊢ bigSepL hops fun i => room (toE i.1 c) i := by
  rw [bigSepL_of_perm hops_split, bigSepL_append]
  exact BIClass.sep_mono (bigSepL_mono fun i hi => by rw [mem_hopsOf hi]) (bigSepL_mono fun i hi => by rw [mem_hopsOf hi])

theorem deal (c : Dev nD) :
    iprop(bigSepL hops (fun i => dutyTok ER (dmaC c (sndS i)) 0 0) ∗ bigSepL hops (fun i => dutyTok ER (dmaC (toE i.1 c) (rcvS i)) 0 0)
      ∗ bigSepL hops (fun i => room (toE i.1 c) i) ∗ bigSepL hops (fun i => cred (tallyAt (dmaC c (rcvS i)) (3 + i.2.1.val) blkN))
      ∗ bigSepL hops (fun i => pos0 c (.dma (rcvS i))))
    ⊢ (iprop(bigSepL firsts (firstPre c) ∗ bigSepL relays (relayPre c)
      ∗ bigSepL lasts (fun i => cred (tallyAt (dmaC c (rcvS i)) (3 + i.2.1.val) blkN))
      ∗ bigSepL lasts (fun i => atPos ER (dmaC c (rcvS i)) 0 ∅ 0)) : sProp 𝕄) := by
  have e1 : ∀ Φ : Hop → sProp 𝕄, bigSepL hops Φ = iprop(bigSepL firsts Φ ∗ bigSepL relays Φ) := fun Φ => bigSepL_append _ _ _
  have e2 : ∀ Φ : Hop → sProp 𝕄, bigSepL hops Φ = iprop(bigSepL relays (fun i => Φ (before i)) ∗ bigSepL lasts Φ) := fun Φ => by
    rw [bigSepL_of_perm hops_perm, bigSepL_append, bigSepL_map]
  rw [e1 fun i => dutyTok ER (dmaC c (sndS i)) 0 0, e1 fun i => dutyTok ER (dmaC (toE i.1 c) (rcvS i)) 0 0, e1 fun i => room (toE i.1 c) i,
    e2 fun i => cred (tallyAt (dmaC c (rcvS i)) (3 + i.2.1.val) blkN), e2 fun i => pos0 c (.dma (rcvS i))]
  unfold firstPre relayPre
  simp only [bigSepL_sep]
  iintro ⟨⟨A1, A2⟩, ⟨B1, B2⟩, ⟨C1, C2⟩, ⟨D1, D2⟩, E1, E2⟩
  isplitl [A1 B1 C1]
  · isplitl [A1]; · iexact A1
    isplitl [B1]; · iexact B1
    iexact C1
  isplitr [D2 E2]
  · isplitl [D1]; · iexact D1
    isplitl [E1]; · iexact E1
    isplitl [A2]; · iexact A2
    isplitl [B2]; · iexact B2
    iexact C2
  isplitl [D2]; · iexact D2
  iexact E2

/-- The blocks that have left and those that stayed are the whole result. -/
theorem gather (c : Dev nD) : iprop(bigSepL lasts (fun i => dmaPay m c (rcvS i)) ∗ bigSepL hops (fun i => dmaPay m c (sndS i)))
    ⊢ (bigSepL (groups c) fun q => owns (c : Thread nD τ) (grp q) fullShare (grpVal m (plane c) q) : sProp 𝕄) := by
  have e0 : bigSepL firsts (fun i => dmaPay m c (sndS i))
      = iprop(dmaPay m c (sndS (false, 0, 0)) ∗ dmaPay m c (sndS (true, 0, 0)) ∗ dmaPay m c (sndS (false, 0, 1)) ∗ dmaPay m c (sndS (true, 0, 1))) := by
    unfold firsts; rw [bigSepL_cons', bigSepL_cons', bigSepL_cons', bigSepL_singleton]
  have e1 : bigSepL relays (fun i => dmaPay m c (sndS i)) ⊢ (bigSepL relays fun i => owns (c : Thread nD τ) (grp (landq c (before i))) fullShare (grpVal m (plane c) (landq c (before i))) : sProp 𝕄) :=
    bigSepL_mono fun i hi => by rw [pay_snd, srcq_relay c i hi, shr_relay i hi]
  have e2 : (bigSepL (groups c) (fun q => owns (c : Thread nD τ) (grp q) fullShare (grpVal m (plane c) q)) : sProp 𝕄)
      = iprop(owns (c : Thread nD τ) (grp (ownq c 0)) fullShare (grpVal m (plane c) (ownq c 0)) ∗ owns (c : Thread nD τ) (grp (ownq c 1)) fullShare (grpVal m (plane c) (ownq c 1))
        ∗ bigSepL relays (fun i => owns (c : Thread nD τ) (grp (landq c (before i))) fullShare (grpVal m (plane c) (landq c (before i))))
        ∗ bigSepL lasts fun i => owns (c : Thread nD τ) (grp (landq c i)) fullShare (grpVal m (plane c) (landq c i))) := by
    show bigSepL (ownq c 0 :: ownq c 1 :: hops.map (landq c)) _ = _
    rw [bigSepL_cons', bigSepL_cons', bigSepL_map, bigSepL_of_perm hops_perm, bigSepL_append, bigSepL_map]
  rw [e2, show hops = firsts ++ relays from rfl, bigSepL_append, e0]
  rw [pay_snd, pay_snd, pay_snd, pay_snd]
  simp only [pay_rcv]
  iintro ⟨HL, ⟨H1, H2, H3, H4⟩, HR⟩
  isplitl [H1 H2]
  · iapply (own_halves m c 0).2; isplitl [H1]; · iexact H1
    iexact H2
  isplitl [H3 H4]
  · iapply (own_halves m c 1).2; isplitl [H3]; · iexact H3
    iexact H4
  isplitl [HR]; · iapply e1; iexact HR
  iexact HL

/-- Semaphores whose rounds are over are at zero. -/
theorem close_all (c : Dev nD) (R : ℕ) : ∀ l : List (SemLoc sig), (∀ sm ∈ l, records m ⊢ knows m c sm)
    → (∀ sm ∈ l, ∀ r, R ≤ r → (rounds m).duties ((c : Thread nD τ), sm) r = ∅) →
    iprop(records m ∗ bigSepL l fun sm => atPos ER ((c : Thread nD τ), sm) R ∅ 0) ⊢ iprop(|={Set.univ}=> bigSepL l fun sm => semVal ((c : Thread nD τ), sm) 0)
  | [], _, _ => by iintro ⟨-, H⟩; imodintro; iexact H
  | sm :: l, hk, hR => by
    rw [bigSepL_cons', bigSepL_cons']
    iintro ⟨#HR, Ha, HL⟩
    ihave Hkn := (hk sm List.mem_cons_self) $$ HR
    unfold knows
    icases Hkn with ⟨%κ, #HI, #Hr⟩
    imod (Rounds.cell_close ER (rounds m) (Set.mem_univ κ) (fun h => h) (R := R) (hR sm List.mem_cons_self)) $$ [Ha] with Hz
    · isplitr; · iexact HI
      iexact Ha
    imod (close_all c R l (fun s hs => hk s (List.mem_cons_of_mem _ hs)) (fun s hs => hR s (List.mem_cons_of_mem _ hs))) $$ [HL] with HL
    · isplitr; · iexact HR
      iexact HL
    imodintro
    isplitl [Hz]; · iexact Hz
    iexact HL

/-! ## From the barrier to the end -/

theorem devs_eq : ∀ c, devs c 0 = peer c ∧ devs c 1 = nxt c ∧ devs c 2 = prv c ∧ devs c 3 = peer c ∧ devs c 4 = peer c
    ∧ devs c 5 = nxt c ∧ devs c 6 = prv c ∧ devs c 7 = nxt c ∧ devs c 8 = prv c := by decide +kernel

theorem dues_eq : dues = dueBar peerE :: dueBar nxtE :: dueBar nxtE.symm :: dueX 0 :: dueX 1 :: hops.map dueHop := rfl

theorem lv_dues (i : ℕ) (hi : i < 2) : ∀ e ∈ dueX 0 :: dueX 1 :: hops.map dueHop, i < e.2.2.1 ∧ e.2.2.1 < NL := fun e he => by
  rcases List.mem_cons.mp he with rfl | he
  · exact ⟨hi, by decide⟩
  rcases List.mem_cons.mp he with rfl | he
  · exact ⟨hi, by decide⟩
  · exact ⟨by have := (lv_hops _ e he).1; omega, (lv_hops _ e he).2⟩

/-- What the body takes. -/
def headPre (c : Dev nD) : sProp 𝕄 :=
  iprop(records m ∗ levAts L lv ∗ (∃ W, owes (c : Thread nD τ) (owing c dues) W) ∗ bigSepL toks (tok c) ∗ bigSepL sems (pos0 c) ∗ bigSepL gets (get c)
    ∗ (((c : Thread nD τ).loc main_arg1) ↦{fullShare} m ((c : Thread nD τ).loc main_arg1))
    ∗ (((c : Thread nD τ).loc cc0_stg0_0) ↦{fullShare} (xB m c : Buf (Elt F) ((c : Thread nD τ).loc cc0_stg0_0)))
    ∗ (∃ f, ((c : Thread nD τ).loc cc0_stg1_0) ↦{fullShare} f)
    ∗ (∃ f, ((c : Thread nD τ).loc cc0_scratch0) ↦{fullShare} f)
    ∗ (∃ f, ((c : Thread nD τ).loc cc0_scratch1) ↦{fullShare} f)
    ∗ (∃ f, ((c : Thread nD τ).loc cc0_scratch2) ↦{fullShare} f))
/-- What it leaves. -/
def headPost (c : Dev nD) : sProp 𝕄 :=
  iprop((∃ W, owes (c : Thread nD τ) 0 W) ∗ bigSepL sems (fun sm => semVal ((c : Thread nD τ), sm) 0)
    ∗ (((c : Thread nD τ).loc main_arg1) ↦{fullShare} m ((c : Thread nD τ).loc main_arg1))
    ∗ (((c : Thread nD τ).loc cc0_stg0_0) ↦{fullShare} (xB m c : Buf (Elt F) ((c : Thread nD τ).loc cc0_stg0_0)))
    ∗ (((c : Thread nD τ).loc cc0_stg1_0) ↦{fullShare} (outB m (plane c) : Buf (Elt F) ((c : Thread nD τ).loc cc0_stg1_0)))
    ∗ (∃ f, ((c : Thread nD τ).loc cc0_scratch0) ↦{fullShare} f)
    ∗ (∃ f, ((c : Thread nD τ).loc cc0_scratch1) ↦{fullShare} f)
    ∗ (∃ f, ((c : Thread nD τ).loc cc0_scratch2) ↦{fullShare} f))

theorem knows_used (c : Dev nD) : ∀ k ∈ (dyS :: xsS 0 :: xsS 1 :: xrS 0 :: xrS 1 :: hops.map sndS ++ hops.map rcvS ++ idle : List (Fin 71)), 2 ≤ k.val := by
  decide +kernel

/-- The six semaphores before the hops, and the hops'. -/
def worked : List (SemLoc sig) :=
  [.reg barS, .dma dyS, .dma (xsS 0), .dma (xsS 1), .dma (xrS 0), .dma (xrS 1)]
    ++ (hops.map (fun i => .dma (sndS i)) ++ hops.map (fun i => .dma (rcvS i)))
theorem worked_eq (Φ : SemLoc sig → sProp 𝕄) : bigSepL worked Φ
    = iprop(Φ (.reg barS) ∗ Φ (.dma dyS) ∗ Φ (.dma (xsS 0)) ∗ Φ (.dma (xsS 1)) ∗ Φ (.dma (xrS 0)) ∗ Φ (.dma (xrS 1))
      ∗ bigSepL hops (fun i => Φ (.dma (sndS i))) ∗ bigSepL hops (fun i => Φ (.dma (rcvS i)))) := by
  unfold worked
  simp only [List.cons_append, List.nil_append, bigSepL_cons', bigSepL_append, bigSepL_map]
theorem sems_worked : sems = worked ++ idle.map fun k => .dma k := rfl
theorem csem_sems : ∀ sm ∈ sems, ∃ k : Fin 70, csem k = sm := by decide +kernel
theorem idle_unused : ∀ k ∈ idle, used k = false := by decide +kernel

theorem knows_sems (c : Dev nD) (sm : SemLoc sig) (h : sm ∈ sems) : records m ⊢ knows m c sm := by
  obtain ⟨k, rfl⟩ := csem_sems sm h
  exact bigSep_elim (Finset.mem_univ ((c, k) : Dev nD × Fin 70))

/-- All of a device's semaphores at zero, once those that worked are through their round. -/
theorem close_sems (c : Dev nD) :
    iprop(records m ∗ bigSepL worked (fun sm => atPos ER ((c : Thread nD τ), sm) 1 ∅ 0) ∗ bigSepL idle (fun k => pos0 c (.dma k)))
      ⊢ iprop(|={Set.univ}=> bigSepL sems fun sm => semVal ((c : Thread nD τ), sm) 0) := by
  iintro ⟨#HR, H1, H2⟩
  imod (close_all m c 1 worked (fun sm h => knows_sems m c sm (by rw [sems_worked]; exact List.mem_append_left _ h))
    (fun sm _ => duties_later m _)) $$ [H1] with H1
  · isplitr; · iexact HR
    iexact H1
  imod (close_all m c 0 (idle.map fun k => .dma k) (fun sm h => knows_sems m c sm (by rw [sems_worked]; exact List.mem_append_right _ h))
    (fun sm h => by obtain ⟨k, hk, rfl⟩ := List.mem_map.mp h; exact duties_unused m c (idle_unused k hk))) $$ [H2] with H2
  · isplitr; · iexact HR
    rw [bigSepL_map]; iexact H2
  imodintro
  rw [sems_worked, bigSepL_append]
  isplitl [H1]; · iexact H1
  iexact H2

theorem dy_sub (c : Dev nD) : (dySrc c).view.set ⊆ (Finset.univ : Finset S1024x4096.Idx) := Finset.subset_univ _

set_option maxHeartbeats 1600000 in
theorem wp_head (c : Dev nD) (Q : PUnit → sProp 𝕄) :
    iprop(headPre m c ∗ (headPost m c -∗ run c (.ret ⟨⟩) Q)) ⊢ run c (head c) Q := by
  obtain ⟨d0, d1, d2, d3, d4, d5, d6, d7, d8⟩ := devs_eq c
  unfold headPre headPost head
  simp only [Prog.lift, Prog.bind_op, Prog.bind_ret]
  rw [toks_eq, sems_eq, gets_eq, dues_eq]
  iintro ⟨⟨#HR, #Hlev, ⟨%W, HO⟩, ⟨Tb0, Tb1, Tb2, Tdy, Ts0, Ts1, Tr0, Tr1, Tsnd, Trcv⟩, ⟨Ab, Ady, As0, As1, Ar0, Ar1, Asnd, Arcv, Aidle⟩,
    ⟨Cb, Cr0, Cr1, Crcv⟩, Harg, Hx, ⟨%fo, Hout⟩, ⟨%f0, Hd⟩, ⟨%f1, Hp⟩, ⟨%f2, Hr⟩⟩, Hk⟩
  -- the copy of `dy`
  ihave Harg := (pointsTo_split_subset (ℓ := (c : Thread nD τ).loc main_arg1) (S := Finset.univ) (I := (dySrc c).view.set) (dy_sub c)).1 $$ Harg
  icases Harg with ⟨Hsrc, Harg⟩
  iapply (wp_copyDy m c f0) $$ [Hsrc Hd Tdy]
  · isplitr; · iexact HR
    isplitl [Hsrc]; · iexact Hsrc
    isplitl [Hd]; · iexact Hd
    iexact Tdy
  iintro Cdy
  -- the barrier
  ihave Hout := (out_split c fo) $$ Hout
  icases Hout with ⟨Ho0, Ho1, Hrooms⟩
  ihave Hg := (grant c) $$ Hrooms
  icases Hg with ⟨Hgn, Hgp⟩
  ihave Hr := (recv_split c f2) $$ Hr
  iapply (wp_signal_bar m c peerE 0 _ d0 _ W) $$ [HO Tb0 Hr]
  · isplitr; · iexact HR
    isplitl [HO]; · iexact HO
    isplitl [Tb0]; · iexact Tb0
    iapply (Entails.of_eq (show bigSepL [(0 : Fin 2), 1] (roomX c) = barPay (F := F) (peerE c) 0 by
      show _ = bigSepL [(0 : Fin 2), 1] fun s => roomX (peer (peer c)) s
      rw [peer_peer]))
    iexact Hr
  iintro HO
  iapply (wp_signal_bar m c nxtE 2 _ d1 _ W) $$ [HO Tb1 Hgn]
  · isplitr; · iexact HR
    isplitl [HO]; · iexact HO
    isplitl [Tb1]; · iexact Tb1
    iexact Hgn
  iintro HO
  iapply (wp_signal_bar m c nxtE.symm 1 _ d2 _ W) $$ [HO Tb2 Hgp]
  · isplitr; · iexact HR
    isplitl [HO]; · iexact HO
    isplitl [Tb2]; · iexact Tb2
    iexact Hgp
  iintro HO
  iapply (wp_wait_bar m c _ (lv_dues 1 (by decide)) W) $$ [Cb HO Ab]
  · isplitr; · iexact HR
    isplitr; · iexact Hlev
    isplitl [Cb]; · iexact Cb
    isplitl [HO]; · iexact HO
    iapply (Entails.of_eq (pos0_eq c (.reg barS))); iexact Ab
  iintro ⟨HO, Ab, P0, P1, P2⟩
  ihave P0 := (Entails.of_eq (barPay_peer c)) $$ P0
  icases P0 with ⟨X0, X1⟩
  ihave Hrooms := (granted c) $$ [P1 P2]
  · isplitl [P1]; · iexact P1
    iexact P2
  ihave Hdeal := (deal c) $$ [Tsnd Trcv Hrooms Crcv Arcv]
  · isplitl [Tsnd]; · iexact Tsnd
    isplitl [Trcv]; · iexact Trcv
    isplitl [Hrooms]; · iexact Hrooms
    isplitl [Crcv]; · iexact Crcv
    iexact Arcv
  icases Hdeal with ⟨Hfirst, Hrelay, Hlc, Hla⟩
  ihave Hfirst := (Entails.of_eq (show bigSepL firsts (firstPre (F := F) c) = iprop(firstPre c (false, 0, 0) ∗ firstPre c (true, 0, 0) ∗ firstPre c (false, 0, 1) ∗ firstPre c (true, 0, 1)) by
    unfold firsts; rw [bigSepL_cons', bigSepL_cons', bigSepL_cons', bigSepL_singleton])) $$ Hfirst
  icases Hfirst with ⟨F1, F2, F3, F4⟩
  -- the copy has arrived
  iapply (wp_wait_dma m c dyS (by decide) (by decide) amt_dy.symm (wpE_waitDma2_eq 𝒱₀ (c : Thread nD τ) none Set.univ) 0 (by decide) _ (lv_dues 0 (by decide)) _) $$ [Cdy HO Ady]
  · isplitr; · iexact HR
    isplitr; · iexact Hlev
    isplitl [Cdy]; · rw [amt_dy]; iexact Cdy
    isplitl [HO]; · iexact HO
    iapply (Entails.of_eq (pos0_eq c (.dma dyS))); iexact Ady
  iintro ⟨HO, Ady, Hpay⟩
  ihave Hpay := (Entails.of_eq (pay_dy m c)) $$ Hpay
  icases Hpay with ⟨Hd, Hsrc⟩
  ihave Harg := (pointsTo_split_subset (ℓ := (c : Thread nD τ).loc main_arg1) (S := Finset.univ) (I := (dySrc c).view.set) (dy_sub c)).2 $$ [Hsrc Harg]
  · isplitl [Hsrc]; · iexact Hsrc
    iexact Harg
  -- the rows for the peer
  iapply (wp_formProd m c (plane c + 1) (off2_eq c) (k0_off2_inb c) (k0_off3_inb c) Finset.univ f1 (Finset.subset_univ _)) $$ [Hx Hd Hp]
  · isplitl [Hx]; · iexact Hx
    isplitl [Hd]; · iexact Hd
    iexact Hp
  iintro ⟨Hx, Hd, Hp⟩
  ihave Hp := (part_split c f1 (off3_eq c) (k0_off3_inb c) (part m c (plane c + 1))) $$ Hp
  icases Hp with ⟨Hs0, Hs1, ⟨%g, Hp⟩⟩
  iapply (wp_sendX m c 0 _ d3 _ _) $$ [Hs0 X0 HO Ts0 Tr0]
  · isplitr; · iexact HR
    isplitl [Hs0]; · iexact Hs0
    isplitl [X0]; · iexact X0
    isplitl [HO]; · iexact HO
    isplitl [Ts0]; · iexact Ts0
    iexact Tr0
  iintro ⟨Cs0, HO⟩
  iapply (wp_sendX m c 1 _ d4 _ _) $$ [Hs1 X1 HO Ts1 Tr1]
  · isplitr; · iexact HR
    isplitl [Hs1]; · iexact Hs1
    isplitl [X1]; · iexact X1
    isplitl [HO]; · iexact HO
    isplitl [Ts1]; · iexact Ts1
    iexact Tr1
  iintro ⟨Cs1, HO⟩
  -- its own rows
  have hk := keep_own c (off := k0_off7 c) (size := S512x256.size) (by rw [off7_eq]; rfl) rfl (k0_off7_inb c)
  iapply (wp_formProd m c (plane c) (off6_eq c) (k0_off6_inb c) (k0_off7_inb c) (keep c) g hk) $$ [Hx Hd Hp]
  · isplitl [Hx]; · iexact Hx
    isplitl [Hd]; · iexact Hd
    iexact Hp
  iintro ⟨Hx, Hd, Hp⟩
  have hg : ∀ s, (pM.access (Rect.unit (s := S1024x256) (koff c s) S512x128.size (koff_inb c s))).read (Elt F)
      ((pM.access (Rect.unit (s := S1024x256) (k0_off7 c) S512x256.size (k0_off7_inb c))).write (Elt F) g (part m c (plane c)) Finset.univ)
      = half s (part m c (plane c)) := fun s => read_half _ s (off7_eq c) (koff_eq c s) (k0_off7_inb c) (koff_inb c s) g _
  generalize (pM.access (Rect.unit (s := S1024x256) (k0_off7 c) S512x256.size (k0_off7_inb c))).write (Elt F) g (part m c (plane c)) Finset.univ = g' at hg ⊢
  -- the two halves
  iapply (wp_openHalf m c 0 _ _ d5 d6 ((false, 0, 1) :: (true, 0, 1) :: relays) _ g' (hg 0)) $$ [HO Cs0 As0 Cr0 Ar0 Ho0 Hp F1 F2]
  · unfold openPre
    isplitr; · iexact HR
    isplitr; · iexact Hlev
    isplitl [HO]; · iexact HO
    isplitl [Cs0 As0 Cr0 Ar0 Ho0]
    · isplitl [Cs0]; · iexact Cs0
      isplitl [As0]; · iapply (Entails.of_eq (pos0_eq c (.dma (xsS 0)))); iexact As0
      isplitl [Cr0]; · iexact Cr0
      isplitl [Ar0]; · iapply (Entails.of_eq (pos0_eq c (.dma (xrS 0)))); iexact Ar0
      iexact Ho0
    isplitl [Hp]; · iexact Hp
    isplitl [F1]; · iexact F1
    iexact F2
  unfold openPost
  iintro ⟨⟨%W1, HO⟩, ⟨As0, ⟨%Y0, Hs0⟩, Ar0, Hr0, D1, D2⟩, Hp⟩
  iapply (wp_openHalf m c 1 _ _ d7 d8 relays _ g' (hg 1)) $$ [HO Cs1 As1 Cr1 Ar1 Ho1 Hp F3 F4]
  · unfold openPre
    isplitr; · iexact HR
    isplitr; · iexact Hlev
    isplitl [HO]; · iexact HO
    isplitl [Cs1 As1 Cr1 Ar1 Ho1]
    · isplitl [Cs1]; · iexact Cs1
      isplitl [As1]; · iapply (Entails.of_eq (pos0_eq c (.dma (xsS 1)))); iexact As1
      isplitl [Cr1]; · iexact Cr1
      isplitl [Ar1]; · iapply (Entails.of_eq (pos0_eq c (.dma (xrS 1)))); iexact Ar1
      iexact Ho1
    isplitl [Hp]; · iexact Hp
    isplitl [F3]; · iexact F3
    iexact F4
  unfold openPost
  iintro ⟨⟨%W2, HO⟩, ⟨As1, ⟨%Y1, Hs1⟩, Ar1, Hr1, D3, D4⟩, Hp⟩
  -- round the ring
  iapply (wp_tail m c W2) $$ [HO Hrelay Hlc Hla D1 D2 D3 D4 Asnd]
  · isplitr; · iexact HR
    isplitr; · iexact Hlev
    isplitl [HO]; · iexact HO
    isplitl [Hrelay]; · iexact Hrelay
    isplitl [Hlc]; · iexact Hlc
    isplitl [Hla]; · iexact Hla
    isplitl [D1 D2 D3 D4]
    · unfold firsts
      rw [bigSepL_cons', bigSepL_cons', bigSepL_cons', bigSepL_singleton]
      isplitl [D1]; · iexact D1
      isplitl [D2]; · iexact D2
      isplitl [D3]; · iexact D3
      iexact D4
    iexact Asnd
  iintro ⟨HO, Arcv, Asnd, Hlp, Hsp⟩
  imod (close_sems m c) $$ [Ab Ady As0 As1 Ar0 Ar1 Asnd Arcv Aidle] with Hz
  · isplitr; · iexact HR
    isplitr [Aidle]
    · rw [worked_eq]
      isplitl [Ab]; · iexact Ab
      isplitl [Ady]; · iexact Ady
      isplitl [As0]; · iexact As0
      isplitl [As1]; · iexact As1
      isplitl [Ar0]; · iexact Ar0
      isplitl [Ar1]; · iexact Ar1
      isplitl [Asnd]; · iexact Asnd
      iexact Arcv
    iexact Aidle
  ihave Hout := (gather m c) $$ [Hlp Hsp]
  · isplitl [Hlp]; · iexact Hlp
    iexact Hsp
  ihave Hout := (out_join m c) $$ Hout
  ihave Hp := (part_join c Y0 Y1 g') $$ [Hs0 Hs1 Hp]
  · isplitl [Hs0]; · iexact Hs0
    isplitl [Hs1]; · iexact Hs1
    iexact Hp
  ihave Hr := (recv_join c _ _) $$ [Hr0 Hr1]
  · isplitl [Hr0]; · iexact Hr0
    iexact Hr1
  ihave Hd := (Entails.of_eq (owns_whole (c : Thread nD τ) cc0_scratch0 fullShare (dyB m c))) $$ Hd
  iapply Hk
  isplitl [HO]; · iexact HO
  isplitl [Hz]; · iexact Hz
  isplitl [Harg]; · iexact Harg
  isplitl [Hx]; · iexact Hx
  isplitl [Hout]; · iexact Hout
  isplitl [Hd]; · iexists _; iexact Hd
  isplitl [Hp]; · iexact Hp
  iexact Hr

end Cert.KernelIdeal.Ring
-- ==== Proof.Deal.lean ====
/-
# `Deal`: what the launch gives every device

Before the devices start, every semaphore's schedule is put in force, and each duty's token, made where the duty's
semaphore is, goes to the device that pays it; each device gets the credit for what the others owe it.
-/
module

public import proofs.«01_k».proof.Proof.Body
public import Idealize.ShloMosaic.Lib.Pipeline.Kit

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos cred_tallyL)

variable {F : FTy → Type} [FloatOps F]

local notation "𝕄" => MT nD τ sig ℕ (Elt F) ℕ UU ℕ

variable (m : (ℓ : Loc nD τ sig) → Buf (Elt F) ℓ)

/-! ## The staging's cells -/

abbrev semTab : Fin 1 → List (DmaSem sig) :=
  fun | 0 => Pipeline.specSems spec0 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint
theorem winFacts0 : Pipeline.WinFacts spec0 := by decide
theorem arr_whole0 : ∀ w : Fin 2, (spec0 w).arr.IsWhole :=
  fun | 0 => Memref.isWhole_whole _ | 1 => Memref.isWhole_whole _ | ⟨_ + 2, h⟩ => absurd h (Nat.not_lt.2 (Nat.le_add_left _ _))
theorem stage_whole0 : ∀ (w : Fin 2) (s : Fin (spec0 w).nbuf), ((spec0 w).stage s).IsWhole :=
  fun | 0 => fun _ => Memref.isWhole_whole _ | 1 => fun _ => Memref.isWhole_whole _ | ⟨_ + 2, h⟩ => absurd h (Nat.not_lt.2 (Nat.le_add_left _ _))

/-! ## The ring's cells -/

theorem csem_inj : Function.Injective csem := by decide +kernel
theorem csem_mem : ∀ k, csem k ∈ sems := by decide +kernel
theorem sems_nodup : sems.Nodup := by decide +kernel

/-- The kernel's own semaphores: all with a schedule but the barrier. -/
def osem (k : Fin 69) : SemLoc sig := csem k.succ
theorem ownSemFacts : Pipeline.OwnSemFacts cfg0.spec osem := by decide +kernel

theorem univ_csem : (Finset.univ.map ⟨csem, csem_inj⟩ : Finset (SemLoc sig)) = sems.toFinset := by
  ext sm
  rw [Finset.mem_map, List.mem_toFinset]
  exact ⟨fun ⟨k, _, h⟩ => h ▸ csem_mem k, fun h => (csem_sems sm h).imp fun k hk => ⟨Finset.mem_univ k, hk⟩⟩

/-- All semaphores with a schedule, as numbered and as listed. -/
theorem cells_list (Φ : SemLoc sig → sProp 𝕄) : (bigSep Finset.univ fun k : Fin 70 => Φ (csem k)) = bigSepL sems Φ := by
  rw [← bigSep_eq_bigSepL sems sems_nodup, ← univ_csem, bigSep_map]; rfl

theorem cells_succ (Φ : Fin 70 → sProp 𝕄) : bigSep Finset.univ Φ = iprop(Φ 0 ∗ bigSep Finset.univ fun k : Fin 69 => Φ k.succ) := by
  rw [Fin.univ_succ, Finset.cons_eq_insert, bigSep_insert (by simp), bigSep_map]; rfl

theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- The launch's semaphores of a device, together. -/
theorem sems0_eq (c : Dev nD) :
    iprop(unscopedSems0 c ∗ Pipeline.ownSems0 (Ix := ℕ) (Name := ℕ) (U := UU) (Lvl := ℕ) (Val := Elt F) (τ := τ) osem c)
      = (bigSep Finset.univ fun k : Fin 70 => semVal ((c : Thread nD τ), csem k) 0 : sProp 𝕄) := by
  rw [cells_succ, unscopedSems0_eq]; rfl

def cell (ck : Dev nD × Fin 70) : GSem nD τ sig := ((ck.1 : Thread nD τ), csem ck.2)
theorem cell_injective : Function.Injective cell := by
  rintro ⟨c, k⟩ ⟨c', k'⟩ h
  have h1 : c = c' := congrArg (fun g : GSem nD τ sig => g.1.1) h
  have h2 : csem k = csem k' := congrArg Prod.snd h
  rw [h1, csem_inj h2]
def ringCells : Finset (GSem nD τ sig) := Finset.univ.map ⟨cell, cell_injective⟩

/-! ## The duties' tokens -/

def tokKey (x : Dev nD × SemLoc sig × Fin 3) : GSem nD τ sig × ℕ × Fin 3 := (((x.1 : Thread nD τ), x.2.1), 0, x.2.2)
theorem tokKey_injective : Function.Injective tokKey := by
  rintro ⟨c, sm, d⟩ ⟨c', sm', d'⟩ h
  have h1 : c = c' := congrArg (fun g : GSem nD τ sig × ℕ × Fin 3 => g.1.1.1) h
  have h2 : sm = sm' := congrArg (fun g : GSem nD τ sig × ℕ × Fin 3 => g.1.2) h
  have h3 : d = d' := congrArg (fun g : GSem nD τ sig × ℕ × Fin 3 => g.2.2) h
  rw [h1, h2, h3]
def ringToks : Finset (GSem nD τ sig × ℕ × Fin 3) := Finset.univ.map ⟨tokKey, tokKey_injective⟩

/-- A duty's token at the device that has the semaphore. -/
def ownTok (c : Dev nD) (e : Equiv.Perm (Dev nD) × SemLoc sig × Fin 3) : sProp 𝕄 := dutyTok ER ((c : Thread nD τ), e.2.1) 0 e.2.2

theorem toks_nodup : (toks.map Prod.snd).Nodup := by decide +kernel

theorem own_toks (c : Dev nD) : (bigSep Finset.univ fun x : SemLoc sig × Fin 3 => (dutyTok ER ((c : Thread nD τ), x.1) 0 x.2 : sProp 𝕄))
    ⊢ bigSepL toks (ownTok c) := by
  have h : bigSepL toks (ownTok (F := F) c) = bigSepL (toks.map Prod.snd) fun x => (dutyTok ER ((c : Thread nD τ), x.1) 0 x.2 : sProp 𝕄) := by
    rw [bigSepL_map]; rfl
  rw [h, ← bigSep_eq_bigSepL _ toks_nodup]
  exact bigSep_subset (Finset.subset_univ _)

theorem bigSep_list {I J : Type} [DecidableEq I] (S : Finset I) (l : List J) (Φ : I → J → sProp 𝕄) :
    (bigSep S fun i => bigSepL l (Φ i)) = bigSepL l fun j => bigSep S fun i => Φ i j := by
  induction l with
  | nil => exact bigSep_emp_const S
  | cons j l ih => simp only [bigSepL_cons']; rw [bigSep_sep', ih]

/-- Every token to the device that pays with it. -/
theorem toks_around : (bigSep Finset.univ fun c : Dev nD => bigSepL toks (ownTok (F := F) c)) = bigSep Finset.univ fun c : Dev nD => bigSepL toks (tok (F := F) c) := by
  rw [bigSep_list, bigSep_list]
  exact congrArg (bigSepL toks) (funext fun e => bigSep_univ_equiv e.1 fun c : Dev nD => ownTok (F := F) c e)

/-! ## The launch's resources -/

def u₀ : UU := (initOf (Pipeline.cells cfgs cellOf_inj) (Pipeline.launchToks cfgs cellOf_inj), initOf ringCells ringToks)

/-- What each device is dealt first, -/
def G (c : Dev nD) : sProp 𝕄 :=
  iprop((bigSep Finset.univ fun k : Fin 70 => roundState ER (rounds m) (cell (c, k)) 0)
    ∗ (bigSep Finset.univ fun k : Fin 70 => reached ER (cell (c, k)) 0)
    ∗ (bigSep Finset.univ fun k : Fin 70 => atPos ER (cell (c, k)) 0 ∅ 0) ∗ bigSepL toks (ownTok c))
/-- what it has once the schedules are in force, -/
def G₁ (c : Dev nD) : sProp 𝕄 :=
  iprop((bigSep Finset.univ fun k : Fin 70 => knows m c (csem k)) ∗ bigSepL sems (pos0 c) ∗ bigSepL toks (ownTok c))
/-- and once the tokens are dealt. -/
def G' (c : Dev nD) : sProp 𝕄 := iprop(records m ∗ bigSepL sems (pos0 c) ∗ bigSepL toks (tok c))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 70 => Φ (cell (c, k)) := by
    unfold ringCells; rw [bigSep_map, bigSep_univ_prod]; rfl
  have hT : bigSep ringToks (fun x => (dutyTok ER x.1 x.2.1 x.2.2 : sProp 𝕄)) ⊢ bigSep Finset.univ fun c : Dev nD => bigSepL toks (ownTok c) := by
    unfold ringToks; rw [bigSep_map, bigSep_univ_prod]
    exact bigSep_mono fun c _ => own_toks c
  iintro HX
  imod (Rounds.fund ER (rounds m) ringCells ringToks) $$ HX with ⟨Hst, Hr, Hat, Htok⟩
  imodintro
  ihave Hst := (Entails.of_eq (hX fun g => roundState ER (rounds m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hr]; · iexact Hr
  isplitl [Hat]; · iexact Hat
  iexact Htok

theorem known (c : Dev nD) (sm : SemLoc sig) :
    iprop((∃ κ, cellInv ER (rounds m) κ ((c : Thread nD τ), sm)) ∗ reached ER ((c : Thread nD τ), sm) 0) ⊢ knows m c sm := by
  unfold knows
  iintro ⟨⟨%κ, H⟩, Hr⟩
  iexists κ
  isplitl [H]; · iexact H
  iexact Hr

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> G₁ m c := by
  have hall : iprop((bigSep Finset.univ fun k : Fin 70 => semVal (cell (c, k)) 0) ∗ bigSep Finset.univ fun k : Fin 70 => roundState ER (rounds m) (cell (c, k)) 0)
      ⊢ (|={Set.univ}=> bigSep Finset.univ fun k => iprop(∃ κ : ℕ, cellInv ER (rounds m) κ (cell (c, k))) : sProp 𝕄) := by
    rw [← bigSep_sep']
    exact (bigSep_mono fun k _ => (Rounds.body_intro ER (rounds m) (cell (c, k))).trans inv_alloc).trans (bigSep_fupd _ _)
  have hk : iprop((bigSep Finset.univ fun k => iprop(∃ κ : ℕ, cellInv ER (rounds m) κ (cell (c, k)))) ∗ bigSep Finset.univ fun k : Fin 70 => reached ER (cell (c, k)) 0)
      ⊢ (bigSep Finset.univ fun k : Fin 70 => knows m c (csem k) : sProp 𝕄) := by
    rw [← bigSep_sep']
    exact bigSep_mono fun k _ => known m c (csem k)
  unfold G G₁
  iintro ⟨Hos, Hus, Hst, Hr, Hat, Htok⟩
  ihave Hv := (Entails.of_eq (sems0_eq (F := F) c)) $$ [Hos Hus]
  · isplitl [Hus]; · iexact Hus
    iexact Hos
  imod hall $$ [Hv Hst] with Hinv
  · isplitl [Hv]; · iexact Hv
    iexact Hst
  imodintro
  isplitl [Hinv Hr]
  · iapply hk
    isplitl [Hinv]; · iexact Hinv
    iexact Hr
  isplitl [Hat]; · iapply (Entails.of_eq (cells_list (F := F) (pos0 c))); iexact Hat
  iexact Htok

theorem share_out {R : sProp 𝕄} [BI.Persistent R] (Φ Ψ : Dev nD → sProp 𝕄) (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : bigSep Finset.univ (G₁ m) ⊢ bigSep Finset.univ (G' m) := by
  unfold G₁
  rw [bigSep_sep', bigSep_sep', toks_around, ← bigSep_univ_prod (fun ck : Dev nD × Fin 70 => knows m ck.1 (csem ck.2)), ← bigSep_sep']
  exact share_out (R := records m) _ _ fun c => Entails.refl _

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

def due (c : Dev nD) : CellTallies nD τ sig ℕ := owing c dues

theorem sum_due (l : List Due) : (∑ d : Dev nD, owing d l) = ∑ d : Dev nD, tallyL (l.map (getOf d)) := by
  induction l with
  | nil => rfl
  | cons e l ih =>
    simp only [owing_cons, List.map_cons, tallyL]
    rw [Finset.sum_add_distrib, Finset.sum_add_distrib, ih, add_comm]
    exact congrArg (· + _) (Equiv.sum_comp e.1 fun d : Dev nD => (tallyAt ((d : Thread nD τ), e.2.1) e.2.2.1 e.2.2.2 : CellTallies nD τ sig ℕ))

theorem creds_list (c : Dev nD) : (Pipeline.launchCred due c : sProp 𝕄) = bigSepL dues fun e => cred (getOf c e).tally := by
  rw [Pipeline.launchCred_of_sum due (fun d => tallyL (dues.map (getOf d))) (sum_due dues) (fun d g hg => ?_) c, cred_tallyL, bigSepL_map]
  obtain ⟨i, hi⟩ := DFunLike.ne_iff.mp hg
  obtain ⟨x, hx, rfl, -⟩ := tallyL_pos (Nat.pos_of_ne_zero hi)
  obtain ⟨e, -, rfl⟩ := List.mem_map.mp hx
  rfl

theorem cred_three (g : GSem nD τ sig) : iprop(cred (tallyAt g 1 1) ∗ cred (tallyAt g 1 1) ∗ cred (tallyAt g 1 1)) ⊢ (cred (tallyAt g 1 3) : sProp 𝕄) := by
  have h : (tallyAt g 1 3 : CellTallies nD τ sig ℕ) = tallyAt g 1 1 + (tallyAt g 1 1 + tallyAt g 1 1) := by
    rw [tallyAt_add, tallyAt_add]
  rw [h]
  iintro ⟨H1, H2, H3⟩
  iapply (cred_add _ _).2
  isplitl [H1]; · iexact H1
  iapply (cred_add _ _).2
  isplitl [H2]; · iexact H2
  iexact H3

theorem creds (c : Dev nD) : (Pipeline.launchCred due c : sProp 𝕄) ⊢ bigSepL gets (get c) := by
  rw [creds_list, gets_eq]
  unfold dues
  simp only [List.cons_append, List.nil_append, bigSepL_cons', bigSepL_map]
  iintro ⟨H1, H2, H3, H4, H5, H6⟩
  isplitl [H1 H2 H3]
  · iapply (cred_three (barC c))
    isplitl [H1]; · iexact H1
    isplitl [H2]; · iexact H2
    iexact H3
  isplitl [H4]; · iexact H4
  isplitl [H5]; · iexact H5
  iexact H6

end Cert.KernelIdeal.Ring
-- ==== Proof.Launch.lean ====
/-
# `Launch`: the whole run

The body's rule placed into the launch: from any memory with zero counters every device runs to its end; the result
array holds `outB` of the device's plane, the inputs are unchanged, every counter is zero.
-/
module

public import proofs.«01_k».proof.Proof.Deal
public import Idealize.ShloMosaic.Lib.Pipeline.Regions
public import Idealize.ShloMosaic.Lib.Pipeline.CollectiveSegs
public import Idealize.ShloMosaic.Lib.Quiescent

@[expose] public section

noncomputable section

namespace Cert.KernelIdeal.Ring

open Cert.KernelIdeal Cert.KernelIdeal.Facts₀
open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device holds before and after its body -/

def argPts (c : Dev nD) : sProp 𝕄 := iprop(((c : Thread nD τ).loc main_arg1) ↦{fullShare} m ((c : Thread nD τ).loc main_arg1))
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 := iprop(G' m c ∗ bigSepL gets (get c) ∗ levAts L lv ∗ argPts m c)
def Φ₀ (c : Dev nD) : sProp 𝕄 := iprop(start m c ∗ scratch c)
def Φ₁ (c : Dev nD) : sProp 𝕄 :=
  iprop((bigSepL sems fun sm => semVal ((c : Thread nD τ), sm) 0) ∗ argPts m c ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xB m c
    | ⟨1, _⟩ => outB m (plane c)
  Φ t := match t with
    | ⟨0, _⟩ => Φ₀ m c
    | ⟨_ + 1, _⟩ => Φ₁ m c
  q _ := fullShare
  owed t := match t with
    | ⟨0, _⟩ => due c
    | ⟨_ + 1, _⟩ => 0

theorem bigSep_W (Φ : Fin cfg0.W → sProp 𝕄) : bigSep Finset.univ Φ = iprop(Φ (0 : Fin 2) ∗ Φ (1 : Fin 2)) :=
  bigSep_univ_eq_bigSepL [(0 : Fin 2), (1 : Fin 2)] (by decide) (by decide) Φ
theorem fetch_0 (t : Fin cfg0.N) : (cfg0.win (0 : Fin 2)).fetch t = true := by rw [fin_N t]; rfl

theorem scopedRest0_eq (c : Dev nD) :
    (Pipeline.scopedRest (Ix := ℕ) (Name := ℕ) (U := UU) (Lvl := ℕ) (Val := Elt F) cfg0.spec c : sProp 𝕄) = scratch c :=
  Pipeline.scopedRest_eq_of_list spec0 c [cc0_scratch0, cc0_scratch1, cc0_scratch2] (by decide) (by decide)
theorem unscopedRest0_eq (c : Dev nD) :
    (Pipeline.unscopedRestP (Ix := ℕ) (Name := ℕ) (U := UU) (Lvl := ℕ) Pipeline.Prefetch.none cfg0.spec c (fun b => m ((c : Thread nD τ).loc b)) : sProp 𝕄)
      = argPts m c :=
  Pipeline.unscopedRestP_eq_of_list spec0 c Pipeline.Prefetch.none (fun b => m ((c : Thread nD τ).loc b)) [main_arg1] (by decide) (by decide)

/-! ## The body at the launch -/

theorem stg_eq (c : Dev nD) (b : Ref sig .tc) (X : b.ty.Contents (Elt F)) :
    (owns (c : Thread nD τ) (Memref.whole b) fullShare X : sProp 𝕄)
      = iprop(((c : Thread nD τ).loc b) ↦{fullShare} (X : Buf (Elt F) ((c : Thread nD τ).loc b))) := owns_whole (c : Thread nD τ) b fullShare X

def bodyPre (c : Dev nD) : sProp 𝕄 :=
  iprop(Φ₀ m c ∗ (dats m ρ 0 c).owesAt 0 t₀.castSucc
    ∗ (∃ d, ((c : Thread nD τ).loc cc0_stg0_0) ↦{fullShare} ((dats m ρ 0 c).before (0 : Fin 2) t₀ d : Buf (Elt F) ((c : Thread nD τ).loc cc0_stg0_0)))
    ∗ (∃ d, ((c : Thread nD τ).loc cc0_stg1_0) ↦{fullShare} ((dats m ρ 0 c).before (1 : Fin 2) t₀ d : Buf (Elt F) ((c : Thread nD τ).loc cc0_stg1_0))))
def bodyPost (c : Dev nD) : sProp 𝕄 :=
  iprop(Φ₁ m c ∗ (dats m ρ 0 c).owesAt 0 t₀.succ
    ∗ (((c : Thread nD τ).loc cc0_stg0_0) ↦{fullShare} (xB m c : Buf (Elt F) ((c : Thread nD τ).loc cc0_stg0_0)))
    ∗ (((c : Thread nD τ).loc cc0_stg1_0) ↦{fullShare} (outB m (plane c) : Buf (Elt F) ((c : Thread nD τ).loc cc0_stg1_0))))

theorem before_x (c : Dev nD) (d) : (dats m ρ 0 c).before (0 : Fin 2) t₀ d = xB m c := by
  unfold Dat.before; rw [if_pos (fetch_0 t₀)]; rfl

theorem wp_body (c : Dev nD) :
    bodyPre m ρ c ⊢ run c (cc0_body xM (Memref.isWhole_whole _) aM (Memref.isWhole_whole _) oM (Memref.isWhole_whole _)
      dM (Memref.isWhole_whole _) pM (Memref.isWhole_whole _) rM (Memref.isWhole_whole _)
      cc0_scratch3 cc0_scratch4 cc0_scratch5 cc0_scratch6 cc0_scratch7 cc0_scratch8 cc0_scratch9) (fun _ => bodyPost m ρ c) := by
  rw [body_eq]
  unfold body
  simp only [Prog.lift, Prog.bind_op, Prog.bind_ret, wp_deviceId]
  unfold bodyPre Φ₀ start G' scratch argPts Dat.owesAt Pipeline.owesWithin
  simp only [before_x]
  rw [show (dats m ρ 0 c).owed t₀.castSucc = owing c dues from rfl]
  iintro ⟨⟨⟨⟨#HR, Hat, Htok⟩, Hget, #Hlev, Harg⟩, Hd, Hp, Hr⟩, ⟨%W, %hW, HO⟩, ⟨%d0, Hx⟩, ⟨%d1, Hout⟩⟩
  iapply (wp_head m c fun _ => bodyPost m ρ c)
  unfold headPre
  isplitl
  · isplitr; · iexact HR
    isplitr; · iexact Hlev
    isplitl [HO]; · iexists W; iexact HO
    isplitl [Htok]; · iexact Htok
    isplitl [Hat]; · iexact Hat
    isplitl [Hget]; · iexact Hget
    isplitl [Harg]; · iexact Harg
    isplitl [Hx]; · iexact Hx
    isplitl [Hout]; · iexists _; iexact Hout
    isplitl [Hd]; · iexact Hd
    isplitl [Hp]; · iexact Hp
    iexact Hr
  unfold headPost
  iintro ⟨⟨%W', HO⟩, Hz, Harg, Hx, Hout, Hd, Hp, Hr⟩
  unfold run; rw [wp_ret]; imodintro
  unfold bodyPost Φ₁ scratch argPts Dat.owesAt Pipeline.owesWithin
  rw [show (dats m ρ 0 c).owed t₀.succ = 0 from rfl]
  isplitl [Hz Harg Hd Hp Hr]
  · isplitl [Hz]; · iexact Hz
    isplitl [Harg]; · iexact Harg
    isplitl [Hd]; · iexact Hd
    isplitl [Hp]; · iexact Hp
    iexact Hr
  isplitl [HO]
  · iexists W'
    isplitr; · ipureintro; exact fun _ _ => Or.inl trivial
    iexact HO
  isplitl [Hx]; · iexact Hx
  iexact Hout

set_option maxRecDepth 30000 in
theorem body_obligation (c : Dev nD) : BodyObligation (dats (F := F) m ρ 0 c) (defs₀ (F := F)) 𝒱₀ 0 Set.univ := fun t => by
  rw [fin_N t]
  rw [bigSep_W, bigSep_W]
  simp only [stg_eq]
  exact wp_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred due c ∗ prngReg c (ρ c) ∗ G' m c)
      ⊢ |={Set.univ}=> iprop(start m c ∗ emp) := by
  rw [unscopedRest0_eq]
  unfold start
  iintro ⟨Harg, Hlev, Hcr, -, HG⟩
  ihave Hc := (creds (F := F) c) $$ Hcr
  imodintro
  isplitl
  · isplitl [HG]; · iexact HG
    isplitl [Hc]; · iexact Hc
    isplitl [Hlev]; · iexact Hlev
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

def done (c : Dev nD) : sProp 𝕄 := iprop(unscopedSems0 c ∗ argPts m c)

theorem phi1_exit (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl, scopedRest0_eq]
  unfold Φ₁ done
  iintro ⟨Hz, Harg, Hs⟩
  ihave Hz := (Entails.of_eq (cells_list (F := F) fun sm => semVal ((c : Thread nD τ), sm) 0).symm) $$ Hz
  ihave Hz := (Entails.of_eq (sems0_eq (F := F) c).symm) $$ Hz
  icases Hz with ⟨Hu, Ho⟩
  isplitl [Hu Harg]
  · isplitl [Hu]; · iexact Hu
    iexact Harg
  isplitl [Ho]; · iexact Ho
  iexact Hs

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) dues (by decide +kernel)
    · exact mayWait c _ 0 (by decide) [] (by decide)

theorem read_done (c : Dev nD) (s' : Phys nD τ sig (Elt F)) :
    iprop(done m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI (Ix := ℕ) (Name := ℕ) (U := UU) (Lvl := ℕ) s') := by
  unfold done argPts
  iintro ⟨⟨Hu, Harg⟩, -, HSI⟩
  imod (Pipeline.unscopedSems0_read (X := unscopedSems0 c) (c := c) fupd_intro s') $$ [Hu HSI] with ⟨%hu, HSI⟩
  · isplitl [Hu]; · iexact Hu
    iexact HSI
  ihave %ha := (SI_pointsTo_agree (st := s') (ℓ := (c : Thread nD τ).loc main_arg1)) $$ [HSI Harg]
  · isplitl [HSI]; · iexact HSI
    iexact Harg
  imodintro
  isplitr
  · ipureintro; exact ⟨hu, funext fun i => ha i (Finset.mem_univ i)⟩
  iexact HSI

/-! ## The run -/

/-- What an array holds after the run. -/
def finalA (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := due) (howed₀ := fun _ => rfl) (howedN := fun _ => rfl)
    (L := L) (lv := lv) (hL := SiteBlocks.hL NL) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_done m)
    (hQ := fun _ h hs => ⟨fun c => ⟨(h c).1, (h c).2.2.2⟩, sem_eq_zero hs fun c => (h c).2.2.1⟩)

/-- The `x` array after the run holds what it held; -/
theorem finalA_x (c : Dev nD) : finalA m ρ c (0 : Fin 2) = m ((c : Thread nD τ).loc main_arg0) :=
  (dats (F := F) m ρ 0 c).arrAt_in (0 : Fin 2) rfl _

end Cert.KernelIdeal.Ring
-- ==== Proof.Value.lean ====
/-
# `Value`: the result at the ideal values

Over the extended reals an entry of a plane's result is the sum, over the rows of both planes' blocks, of the products
of the entries of `x` and `dy`: the entry of the whole product `xᵀ dy` that the plane's block of it has there.
-/
module

public import proofs.«01_k».proof.Proof.Launch
public import Idealize.ShloMosaic.PureOps.Ideal.Laws
public import Idealize.ShloMosaic.Lib.ValueIdx
public import Idealize.ShloMosaic.Lib.Layout

@[expose] public section

noncomputable section

namespace Cert.KernelIdeal.Ring

open Cert.KernelIdeal Cert.KernelIdeal.Facts₀
open Idealize.ShloMosaic hiding ix2 eq_ix2
open Idealize.ShloMosaic.TcCoe Idealize.SL.Sem Idealize.ShloMosaic.ValueIdx
open Idealize.ShloMosaic.Pipeline (Dat)
open scoped BigOperators

/-! ## The result array after the run, for any float values -/

section
variable {F : FTy → Type} [FloatOps F] (m : (ℓ : Loc nD τ sig) → Buf (Elt F) ℓ) (ρ : Dev nD → PrngReg)

/-- A block of the result's window starts where the array does, and is as large. -/
theorem emb_out (t : Fin cfg0.N) (y : S512x4096.Idx) : ((cfg0.win (1 : Fin 2)).blk t).view.emb y = y := by
  rw [fin_N t]
  funext a
  refine Fin.ext ?_
  match a with
  | ⟨0, _⟩ => exact (ValueKit.rect_emb_unit_val (s := S512x4096) _ _ _ y (0 : Fin 2)).trans (Nat.zero_add _)
  | ⟨1, _⟩ => exact (ValueKit.rect_emb_unit_val (s := S512x4096) _ _ _ y (1 : Fin 2)).trans (Nat.zero_add _)

theorem emb_x (t : Fin cfg0.N) (y : S1024x1024.Idx) : ((cfg0.win (0 : Fin 2)).blk t).view.emb y = y := by
  rw [fin_N t]
  funext a
  refine Fin.ext ?_
  match a with
  | ⟨0, _⟩ => exact (ValueKit.rect_emb_unit_val (s := S1024x1024) _ _ _ y (0 : Fin 2)).trans (Nat.zero_add _)
  | ⟨1, _⟩ => exact (ValueKit.rect_emb_unit_val (s := S1024x1024) _ _ _ y (1 : Fin 2)).trans (Nat.zero_add _)

theorem finalA_out (c : Dev nD) : finalA m ρ c (1 : Fin 2) = outB m (plane c) := by
  refine (dats m ρ 0 c).arrAt_eq_of_cover (1 : Fin 2) (outB m (plane c)) (fun t _ => ?_) (fun i => ⟨t₀, ?_, ?_⟩)
  · funext y
    show outB m (plane c) y = outB m (plane c) (((cfg0.win (1 : Fin 2)).blk t).view.emb y)
    rw [emb_out]
  · rfl
  · exact Finset.mem_map.mpr ⟨i, Finset.mem_univ _, emb_out t₀ i⟩

/-- The device's block of `x` is its argument; its columns of `dy` are those of its ring position. -/
theorem xB_apply (c : Dev nD) (i : S1024x1024.Idx) : xB m c i = m ((c : Thread nD τ).loc main_arg0) i :=
  congrArg (m ((c : Thread nD τ).loc main_arg0)) (emb_x t₀ i)

theorem dyB_apply (c : Dev nD) (k : Fin 1024) (j : Fin 256) :
    dyB m c (ix2 k j) = m ((c : Thread nD τ).loc main_arg1) (ix2 (n0 := 1024) (n1 := 4096) k ⟨256 * (pos c).val + j.val, by omega⟩) := by
  refine congrArg (m ((c : Thread nD τ).loc main_arg1)) (funext fun a => Fin.ext ?_)
  have e := ValueKit.rect_emb_unit_val (s := S1024x4096) (k0_off1 c) S1024x256.size (k0_off1_inb c) (ix2 k j) a
  refine e.trans ((congrArg (fun v : ℕ => v + (ix2 k j a).val) (congrFun (off1_eq c) a)).trans ?_)
  match a with
  | ⟨0, _⟩ => exact Nat.zero_add _
  | ⟨1, _⟩ => rfl
end

/-! ## Over the extended reals -/

/-- An entry of a product of columns of `x`, transposed, with columns of `dy`. -/
theorem prod_apply (x : Vec Ideal S1024x512 .f32) (d : Vec Ideal S1024x256 .f32) (r : Fin 512) (j : Fin 256) :
    prod x d (ix2 r j) = ∑ k : Fin 1024, (x (ix2 k r) * d (ix2 k j) : EReal) := by
  unfold prod
  rw [shapeCast_self, shapeCast_self]
  refine (Ideal.matmul_constant_zero_apply _ _ _ _ _).trans ?_
  rw [← Equiv.sum_comp (contrEquiv1 dot_S1024x512_S1024x256_S512x256_0_0_1_1_n_n 1024 rfl rfl).symm]
  refine Finset.sum_congr rfl fun k _ => ?_
  have hk := contrEquiv1_symm_val dot_S1024x512_S1024x256_S512x256_0_0_1_1_n_n 1024 rfl rfl k
  refine congrArg₂ (fun a b : EReal => a * b) (congrArg x (funext fun a => Fin.ext ?_)) (congrArg d (funext fun a => Fin.ext ?_))
  · match a with
    | ⟨0, _⟩ => exact hk
    | ⟨1, _⟩ => rfl
  · match a with
    | ⟨0, _⟩ => exact hk
    | ⟨1, _⟩ => rfl

variable (m : (ℓ : Loc nD τ sig) → Buf (Elt Ideal) ℓ)
-- The whole `x` and the whole `dy`, of which each device has its plane's rows.
variable (X : (⟨2, ![2048, 1024]⟩ : Shape).Idx → EReal) (Y : (⟨2, ![2048, 4096]⟩ : Shape).Idx → EReal)

/-- The rows of a plane in the whole arrays. -/
def row (p : Fin 2) (k : Fin 1024) : Fin 2048 := ⟨1024 * p.val + k.val, by omega⟩

/-- Each device's arguments are its plane's rows of the whole arrays. -/
def Cuts : Prop := ∀ c : Dev nD,
  (∀ k j, m ((c : Thread nD τ).loc main_arg0) (ix2 (n0 := 1024) (n1 := 1024) k j) = X (ix2 (row (plane c) k) j))
  ∧ ∀ k j, m ((c : Thread nD τ).loc main_arg1) (ix2 (n0 := 1024) (n1 := 4096) k j) = Y (ix2 (row (plane c) k) j)

/-- What the rows of plane `p` add to the entry at row `512 o + r` and column `j` of the whole product. -/
def rowsSum (p o : Fin 2) (r : Fin 512) (j : Fin 4096) : EReal :=
  ∑ k : Fin 1024, X (ix2 (row p k) ⟨512 * o.val + r.val, by omega⟩) * Y (ix2 (row p k) j)

variable {m X Y}

theorem part_apply (h : Cuts m X Y) (c : Dev nD) (p o : Fin 2) (r : Fin 512) (j : Fin 256) (j' : Fin 4096)
    (hp : plane c = p) (hj : 256 * (pos c).val + j.val = j'.val) : part m c o (ix2 r j) = rowsSum X Y p o r j' := by
  subst hp
  unfold part
  rw [prod_apply]
  refine Finset.sum_congr rfl fun k _ => ?_
  rw [dyB_apply, (h c).2]
  refine congrArg₂ (fun a b : EReal => a * b) ?_ (congrArg (fun i => Y (ix2 (row (plane c) k) i)) (Fin.ext hj))
  unfold cols
  rw [xB_apply]
  exact (h c).1 k _

/-- An entry of a plane's result: the plane's own rows, then the other plane's. -/
theorem outB_apply (h : Cuts m X Y) (x : Fin 2) (r : Fin 512) (j : Fin 4096) :
    outB m x (ix2 r j) = rowsSum X Y x x r j + rowsSum X Y (x + 1) x r j := by
  unfold outB grpVal chunk
  rw [plane_dev]
  refine congrArg₂ (fun a b : EReal => a + b) ?_ ?_
  · refine part_apply h _ x x r _ j (plane_dev _ _) ?_
    rw [pos_dev]
    show 256 * (j.val / 128 / 2) + (128 * (j.val / 128 % 2) + j.val % 128) = j.val
    omega
  · refine part_apply h _ (x + 1) x r _ j ((plane_peer _).trans (congrArg (· + 1) (plane_dev _ _))) ?_
    rw [pos_peer, pos_dev]
    show 256 * (j.val / 128 / 2) + (128 * (j.val / 128 % 2) + j.val % 128) = j.val
    omega

/-- The sum over all the rows, by planes. -/
theorem sum_rows (f : Fin 2048 → EReal) (x : Fin 2) :
    ∑ k : Fin 2048, f k = (∑ k : Fin 1024, f (row x k)) + ∑ k : Fin 1024, f (row (x + 1) k) := by
  have h : ∑ k : Fin 2048, f k = (∑ k : Fin 1024, f (row 0 k)) + ∑ k : Fin 1024, f (row 1 k) := by
    refine (Fin.sum_univ_add (a := 1024) (b := 1024) f).trans ?_
    refine congrArg₂ (· + ·) (Finset.sum_congr rfl fun k _ => congrArg f (Fin.ext ?_)) (Finset.sum_congr rfl fun k _ => congrArg f (Fin.ext ?_))
    · show k.val = 1024 * 0 + k.val; omega
    · show 1024 + k.val = 1024 * 1 + k.val; omega
  match x with
  | ⟨0, _⟩ => exact h
  | ⟨1, _⟩ => exact h.trans (add_comm _ _)

/-- An entry of a plane's result is the entry of the whole product. -/
theorem outB_eq (h : Cuts m X Y) (x : Fin 2) (r : Fin 512) (j : Fin 4096) :
    outB m x (ix2 r j) = ∑ k : Fin 2048, X (ix2 k ⟨512 * x.val + r.val, by omega⟩) * Y (ix2 k j) :=
  (outB_apply h x r j).trans (sum_rows (fun k => X (ix2 k ⟨512 * x.val + r.val, by omega⟩) * Y (ix2 k j)) x).symm

end Cert.KernelIdeal.Ring
-- ==== Proof.lean ====
/-
# The proof of the claim

The frames come from the kernel's run (`Ring.run_main`), which holds at every float instance; the algebraic claim from
the value of the result (`Ring.outB_eq`), block by block of the whole arrays.
-/
module

public import proofs.«01_k».proof.Defs
public import proofs.«01_k».proof.Proof.Value
public import proofs.«01_k».proof.Proof.Gen.ReferenceIdeal
public import proofs.«01_k».proof.Proof.Gen.ReferenceIdeal.Run

@[expose] public section

noncomputable section

/-! ## The kernel as printed, at the machine's floats -/

namespace Cert.Kernel

open Idealize.ShloMosaic

/-- Its side conditions are the idealised program's, letter for letter, and are settled in the same way. -/
instance facts₀ : Facts₀ := by
  constructor <;> first
    | decide +kernel
    | (intro j; obtain rfl := Subsingleton.elim j 0; exact Memref.isWhole_whole _)

instance facts : Facts where

end Cert.Kernel

namespace Cert.Proof

open Idealize.ShloMosaic hiding ix2 eq_ix2
open Idealize.SL.Sem Idealize.ShloMosaic.ValueIdx
open scoped BigOperators

section
variable {F : FTy → Type} [FloatOps F] (m : (ℓ : Loc KernelIdeal.nD KernelIdeal.τ KernelIdeal.sig) → Buf (Elt F) ℓ)
  (ρ : Dev KernelIdeal.nD → PrngReg)

/-- Every run ends, with the result of the device's plane, the arguments unchanged and every counter zero again. -/
theorem kernel_run : θ_run (KernelIdeal.defs (F := F)) (onTc (τ := KernelIdeal.τ) (KernelIdeal.main (F := F))) ⟨m, fun _ => 0, ρ⟩ fun r =>
    (∀ c : Dev KernelIdeal.nD,
      r.2.mem ((c.tc : Thread KernelIdeal.nD KernelIdeal.τ).loc KernelIdeal.main_v1) = KernelIdeal.Ring.outB m (KernelIdeal.Ring.plane c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
    ∧ r.2.sem = fun _ => 0 :=
  (θ_run _ _ _).mono (fun _ h => ⟨fun c =>
    ⟨((h.1 c).1 (1 : Fin 2)).trans (KernelIdeal.Ring.finalA_out m ρ c),
     ((h.1 c).1 (0 : Fin 2)).trans (KernelIdeal.Ring.finalA_x m ρ c), (h.1 c).2⟩, h.2⟩) (KernelIdeal.Ring.run_main m ρ)

theorem kernel_frame : θ_run (KernelIdeal.defs (F := F)) (onTc (τ := KernelIdeal.τ) (KernelIdeal.main (F := F))) ⟨m, fun _ => 0, ρ⟩ fun r =>
    (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
    ∧ r.2.sem = fun _ => 0 :=
  (θ_run _ _ _).mono (fun _ h => ⟨fun c => (h.1 c).2, h.2⟩) (kernel_run m ρ)
end

/-! ## The frames -/

/-- The kernel as printed is the idealised program's text, so its frame is that program's at the machine's floats. -/
theorem frame_text : quiescent_Kernel = ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) := by
  chain_rfl

theorem frame_kernel : quiescent_Kernel := by
  rw [frame_text]
  exact fun m g _ => kernel_frame m g

theorem frame_ideal : quiescent_KernelIdeal := fun m g _ => kernel_frame m g

theorem frame_reference : quiescent_ReferenceIdeal := fun m g _ =>
  (θ_run _ _ _).mono (fun r h => ⟨fun c => (h c).2, sem_eq_zero_of_no_sems (by decide) r.2⟩) (ReferenceIdeal.Value.run m g)

/-! ## The value -/

/-- An entry of the reference's product. -/
theorem dot_apply (x : FVec Ideal ReferenceIdeal.S2048x1024 .f32) (y : FVec Ideal ReferenceIdeal.S2048x4096 .f32) (r : Fin 1024) (j : Fin 4096) :
    Host.dotGeneral ReferenceIdeal.dot_S1024x2048_S2048x4096_S1024x4096_1_0_0_1_n_n none
      (transpose ReferenceIdeal.S1024x2048 [1, 0] x ReferenceIdeal.Facts₀.transposes_S2048x1024_S1024x2048_1_0) y (ix2 r j)
      = ∑ k : Fin 2048, (x (ix2 k r) * y (ix2 k j) : EReal) := by
  refine (Ideal.dotGeneral_apply _ _ _ _ _ _).trans ?_
  rw [← Equiv.sum_comp (contrEquiv1 ReferenceIdeal.dot_S1024x2048_S2048x4096_S1024x4096_1_0_0_1_n_n 2048 rfl rfl).symm]
  refine Finset.sum_congr rfl fun k _ => ?_
  have hk := contrEquiv1_symm_val ReferenceIdeal.dot_S1024x2048_S2048x4096_S1024x4096_1_0_0_1_n_n 2048 rfl rfl k
  refine congrArg₂ (fun a b : EReal => a * b) ?_ (congrArg y (funext fun a => Fin.ext ?_))
  · refine transpose_apply [1, 0] x _ _ (ix2 k r) fun b => ?_
    match b with
    | ⟨0, _⟩ => rfl
    | ⟨1, _⟩ => exact hk.symm
  · match a with
    | ⟨0, _⟩ => exact hk
    | ⟨1, _⟩ => rfl

/-- Along the rows a device has its plane's block; the columns are not cut. -/
theorem block_rows : ∀ c : Dev KernelIdeal.nD, Layout.meshLin [2, 4, 4] c.val [0] = (KernelIdeal.Ring.plane c).val := by decide

theorem idx_eq {h w H : ℕ} (T : Layout.TilesN ⟨2, ![h, w]⟩ ⟨2, ![H, w]⟩ fun b => Layout.cutSize [2, 4, 4] ((![[0], []] : Fin 2 → List ℕ) b))
    (c : Dev KernelIdeal.nD) (k : Fin h) (j : Fin w) (k' : Fin H) (hk : h * (KernelIdeal.Ring.plane c).val + k.val = k'.val) :
    T.idx (Layout.meshBlock [2, 4, 4] ![[0], []] c) (ix2 k j) = ix2 k' j := by
  funext a
  refine Fin.ext ?_
  match a with
  | ⟨0, _⟩ =>
    show Layout.meshLin [2, 4, 4] c.val [0] * h + k.val = k'.val
    rw [block_rows, Nat.mul_comm]; exact hk
  | ⟨1, _⟩ => exact (congrArg (· + j.val) (Nat.zero_mul w)).trans (Nat.zero_add _)

theorem algebraic : algebraic_KernelIdeal_ReferenceIdeal := by
  intro m g m' g' _ hm
  have hc : KernelIdeal.Ring.Cuts m (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)) := fun c =>
    ⟨fun k j => (congrFun (hm c).1 _).trans (congrArg _ (idx_eq _ c k j (KernelIdeal.Ring.row (KernelIdeal.Ring.plane c) k) rfl)),
     fun k j => (congrFun (hm c).2 _).trans (congrArg _ (idx_eq _ c k j (KernelIdeal.Ring.row (KernelIdeal.Ring.plane c) k) rfl))⟩
  refine ⟨_, (θ_run _ _ _).mono (fun r h c => ⟨(h.1 c).1.trans ?_, (h.1 c).2⟩) (kernel_run m g),
    (θ_run _ _ _).mono (fun r h => h 0) (ReferenceIdeal.Value.run m' g')⟩
  funext i
  obtain ⟨a, b, rfl⟩ : ∃ (a : Fin 512) (b : Fin 4096), i = ix2 a b := ⟨_, _, eq_ix2 i⟩
  refine (KernelIdeal.Ring.outB_eq hc _ a b).trans ?_
  refine (dot_apply _ _ _ b).symm.trans ?_
  exact (congrArg _ (idx_eq _ c a b _ rfl)).symm

theorem claim : Cert.Claim :=
  ⟨Kernel.facts, KernelIdeal.facts, ReferenceIdeal.Gen.facts, frame_kernel, frame_ideal, frame_reference, trivial, algebraic⟩

end Cert.Proof

end
